-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v5) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4096x200 : Shape := ⟨2, ![4096, 200]⟩
abbrev S1000x64 : Shape := ⟨2, ![1000, 64]⟩
abbrev S819200 : Shape := ⟨1, ![819200]⟩
abbrev S819200x64 : Shape := ⟨2, ![819200, 64]⟩
abbrev S25616 : Shape := ⟨1, ![25616]⟩
abbrev S208x64 : Shape := ⟨2, ![208, 64]⟩
abbrev S2x512x64 : Shape := ⟨3, ![2, 512, 64]⟩
abbrev S_ : Shape := ⟨0, ![]⟩
abbrev S25600 : Shape := ⟨1, ![25600]⟩
abbrev S16 : Shape := ⟨1, ![16]⟩
abbrev S1x512x64 : Shape := ⟨3, ![1, 512, 64]⟩
abbrev S512x64 : Shape := ⟨2, ![512, 64]⟩
abbrev S4096x200x64 : Shape := ⟨3, ![4096, 200, 64]⟩

abbrev nBuf : Table → Nat
  | .hbm => 5
  | .local .scVector .vmem => 3
  | _ => 0

abbrev bufTy : (tb : Table) → Fin (nBuf tb) → BufTy
  | .hbm, ⟨0, _⟩ => ⟨S4096x200, .i32⟩
  | .hbm, ⟨1, _⟩ => ⟨S1000x64, .f32⟩
  | .hbm, ⟨2, _⟩ => ⟨S819200, .i32⟩
  | .hbm, ⟨3, _⟩ => ⟨S819200x64, .f32⟩
  | .hbm, ⟨4, _⟩ => ⟨S4096x200x64, .f32⟩
  | .local .scVector .vmem, ⟨0, _⟩ => ⟨S25616, .i32⟩
  | .local .scVector .vmem, ⟨1, _⟩ => ⟨S208x64, .f32⟩
  | .local .scVector .vmem, ⟨2, _⟩ => ⟨S2x512x64, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  ![v2.toNat]
@[reducible] def k0_t1_loop : Scf.Loop 32 :=
  let c0_i32_0 : BitVec 32 := 0#32
  let c128_i32 : BitVec 32 := 128#32
  let v7 : BitVec 32 := Scalar.addi c0_i32_0 c128_i32
  let c1_i32_1 : BitVec 32 := 1#32
  ⟨c0_i32_0, v7, c1_i32_1⟩
def k0_off2 (k0_t1 : Fin k0_t1_loop.trips) (c0_i32_224 : BitVec 32) : Fin 1 → Nat :=
  let c0_i32_0 : BitVec 32 := 0#32
  let c1_i32_1 : BitVec 32 := 1#32
  let arg10 : BitVec 32 := Scf.iv c0_i32_0 c1_i32_1 k0_t1
  let c200_i32 : BitVec 32 := 200#32
  let v428 : BitVec 32 := Scalar.muli arg10 c200_i32
  let v429 : BitVec 32 := Scalar.addi v428 c0_i32_224
  let v430 : Index := Scalar.indexCast v429
  ![v430.toNat]
@[reducible] def k0_t2_loop : Scf.Loop 32 :=
  let c0_i32_181 : BitVec 32 := 0#32
  let c32_i32_182 : BitVec 32 := 32#32
  let v393 : BitVec 32 := Scalar.addi c0_i32_181 c32_i32_182
  let c1_i32_183 : BitVec 32 := 1#32
  ⟨c0_i32_181, v393, c1_i32_183⟩
def k0_off3 (k0_t2 : Fin k0_t2_loop.trips) : Fin 1 → Nat :=
  let c0_i32_224 : BitVec 32 := 0#32
  let c0_i32_181 : BitVec 32 := 0#32
  let c1_i32_183 : BitVec 32 := 1#32
  let arg10 : BitVec 32 := Scf.iv c0_i32_181 c1_i32_183 k0_t2
  let c16_i32_223 : BitVec 32 := 16#32
  let v427 : BitVec 32 := Scalar.muli arg10 c16_i32_223
  let v428 : BitVec 32 := Scalar.addi c0_i32_224 v427
  let v429 : Index := Scalar.indexCast v428
  ![v429.toNat]

def k0_chk1_0 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) : Prop :=
  (∀ a x, ((![v430, v14] : Fin 2 → IVec S16 32) a x).toNat < S208x64.size a) ∧
  (∀ a x, ((![v430, v20] : Fin 2 → IVec S16 32) a x).toNat < S208x64.size a) ∧
  (∀ a x, ((![v430, v26] : Fin 2 → IVec S16 32) a x).toNat < S208x64.size a) ∧
  (∀ a x, ((![v430, v32] : Fin 2 → IVec S16 32) a x).toNat < S208x64.size a) ∧
  (∀ a x, ((![v430, v38] : Fin 2 → IVec S16 32) a x).toNat < S208x64.size a) ∧
  (∀ a x, ((![v430, v44] : Fin 2 → IVec S16 32) a x).toNat < S208x64.size a) ∧
  (∀ a x, ((![v430, v50] : Fin 2 → IVec S16 32) a x).toNat < S208x64.size a) ∧
  (∀ a x, ((![v430, v56] : Fin 2 → IVec S16 32) a x).toNat < S208x64.size a) ∧
  (∀ a x, ((![v430, v62] : Fin 2 → IVec S16 32) a x).toNat < S208x64.size a) ∧
  (∀ a x, ((![v430, v68] : Fin 2 → IVec S16 32) a x).toNat < S208x64.size a) ∧
  (∀ a x, ((![v430, v74] : Fin 2 → IVec S16 32) a x).toNat < S208x64.size a) ∧
  (∀ a x, ((![v430, v80] : Fin 2 → IVec S16 32) a x).toNat < S208x64.size a) ∧
  (∀ a x, ((![v430, v86] : Fin 2 → IVec S16 32) a x).toNat < S208x64.size a) ∧
  (∀ a x, ((![v430, v92] : Fin 2 → IVec S16 32) a x).toNat < S208x64.size a) ∧
  (∀ a x, ((![v430, v98] : Fin 2 → IVec S16 32) a x).toNat < S208x64.size a) ∧
  (∀ a x, ((![v430, v104] : Fin 2 → IVec S16 32) a x).toNat < S208x64.size a) ∧
  (∀ a x, ((![v430, v110] : Fin 2 → IVec S16 32) a x).toNat < S208x64.size a) ∧
  (∀ a x, ((![v430, v116] : Fin 2 → IVec S16 32) a x).toNat < S208x64.size a) ∧
  (∀ a x, ((![v430, v122] : Fin 2 → IVec S16 32) a x).toNat < S208x64.size a) ∧
  (∀ a x, ((![v430, v128] : Fin 2 → IVec S16 32) a x).toNat < S208x64.size a) ∧
  (∀ a x, ((![v430, v134] : Fin 2 → IVec S16 32) a x).toNat < S208x64.size a) ∧
  (∀ a x, ((![v430, v140] : Fin 2 → IVec S16 32) a x).toNat < S208x64.size a) ∧
  (∀ a x, ((![v430, v146] : Fin 2 → IVec S16 32) a x).toNat < S208x64.size a) ∧
  (∀ a x, ((![v430, v152] : Fin 2 → IVec S16 32) a x).toNat < S208x64.size a) ∧
  (∀ a x, ((![v430, v158] : Fin 2 → IVec S16 32) a x).toNat < S208x64.size a) ∧
  (∀ a x, ((![v430, v164] : Fin 2 → IVec S16 32) a x).toNat < S208x64.size a) ∧
  (∀ a x, ((![v430, v170] : Fin 2 → IVec S16 32) a x).toNat < S208x64.size a) ∧
  (∀ a x, ((![v430, v176] : Fin 2 → IVec S16 32) a x).toNat < S208x64.size a) ∧
  (∀ a x, ((![v430, v182] : Fin 2 → IVec S16 32) a x).toNat < S208x64.size a) ∧
  (∀ a x, ((![v430, v188] : Fin 2 → IVec S16 32) a x).toNat < S208x64.size a) ∧
  (∀ a x, ((![v430, v194] : Fin 2 → IVec S16 32) a x).toNat < S208x64.size a) ∧
  (∀ a x, ((![v430, v200] : Fin 2 → IVec S16 32) a x).toNat < S208x64.size a)
def k0_chk1_1 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) : Prop :=
  (∀ a x, ((![v430, v206] : Fin 2 → IVec S16 32) a x).toNat < S208x64.size a) ∧
  (∀ a x, ((![v430, v212] : Fin 2 → IVec S16 32) a x).toNat < S208x64.size a) ∧
  (∀ a x, ((![v430, v218] : Fin 2 → IVec S16 32) a x).toNat < S208x64.size a) ∧
  (∀ a x, ((![v430, v224] : Fin 2 → IVec S16 32) a x).toNat < S208x64.size a) ∧
  (∀ a x, ((![v430, v230] : Fin 2 → IVec S16 32) a x).toNat < S208x64.size a) ∧
  (∀ a x, ((![v430, v236] : Fin 2 → IVec S16 32) a x).toNat < S208x64.size a) ∧
  (∀ a x, ((![v430, v242] : Fin 2 → IVec S16 32) a x).toNat < S208x64.size a) ∧
  (∀ a x, ((![v430, v248] : Fin 2 → IVec S16 32) a x).toNat < S208x64.size a) ∧
  (∀ a x, ((![v430, v254] : Fin 2 → IVec S16 32) a x).toNat < S208x64.size a) ∧
  (∀ a x, ((![v430, v260] : Fin 2 → IVec S16 32) a x).toNat < S208x64.size a) ∧
  (∀ a x, ((![v430, v266] : Fin 2 → IVec S16 32) a x).toNat < S208x64.size a) ∧
  (∀ a x, ((![v430, v272] : Fin 2 → IVec S16 32) a x).toNat < S208x64.size a) ∧
  (∀ a x, ((![v430, v278] : Fin 2 → IVec S16 32) a x).toNat < S208x64.size a) ∧
  (∀ a x, ((![v430, v284] : Fin 2 → IVec S16 32) a x).toNat < S208x64.size a) ∧
  (∀ a x, ((![v430, v290] : Fin 2 → IVec S16 32) a x).toNat < S208x64.size a) ∧
  (∀ a x, ((![v430, v296] : Fin 2 → IVec S16 32) a x).toNat < S208x64.size a) ∧
  (∀ a x, ((![v430, v302] : Fin 2 → IVec S16 32) a x).toNat < S208x64.size a) ∧
  (∀ a x, ((![v430, v308] : Fin 2 → IVec S16 32) a x).toNat < S208x64.size a) ∧
  (∀ a x, ((![v430, v314] : Fin 2 → IVec S16 32) a x).toNat < S208x64.size a) ∧
  (∀ a x, ((![v430, v320] : Fin 2 → IVec S16 32) a x).toNat < S208x64.size a) ∧
  (∀ a x, ((![v430, v326] : Fin 2 → IVec S16 32) a x).toNat < S208x64.size a) ∧
  (∀ a x, ((![v430, v332] : Fin 2 → IVec S16 32) a x).toNat < S208x64.size a) ∧
  (∀ a x, ((![v430, v338] : Fin 2 → IVec S16 32) a x).toNat < S208x64.size a) ∧
  (∀ a x, ((![v430, v344] : Fin 2 → IVec S16 32) a x).toNat < S208x64.size a) ∧
  (∀ a x, ((![v430, v350] : Fin 2 → IVec S16 32) a x).toNat < S208x64.size a) ∧
  (∀ a x, ((![v430, v356] : Fin 2 → IVec S16 32) a x).toNat < S208x64.size a) ∧
  (∀ a x, ((![v430, v362] : Fin 2 → IVec S16 32) a x).toNat < S208x64.size a) ∧
  (∀ a x, ((![v430, v368] : Fin 2 → IVec S16 32) a x).toNat < S208x64.size a) ∧
  (∀ a x, ((![v430, v374] : Fin 2 → IVec S16 32) a x).toNat < S208x64.size a) ∧
  (∀ a x, ((![v430, v380] : Fin 2 → IVec S16 32) a x).toNat < S208x64.size a) ∧
  (∀ a x, ((![v430, v386] : Fin 2 → IVec S16 32) a x).toNat < S208x64.size a) ∧
  (∀ a x, ((![v430, v392] : Fin 2 → IVec S16 32) a x).toNat < S208x64.size a)
def k0_chk1 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) : Prop :=
  k0_chk1_0 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 ∧
  k0_chk1_1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430
theorem k0_idx1_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v14] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.1
theorem k0_idx3_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v20] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.1
theorem k0_idx5_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v26] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.1
theorem k0_idx7_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v32] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.1
theorem k0_idx9_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v38] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.1
theorem k0_idx11_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v44] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.1
theorem k0_idx13_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v50] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.1
theorem k0_idx15_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v56] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.1
theorem k0_idx17_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v62] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.1
theorem k0_idx19_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v68] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.1
theorem k0_idx21_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v74] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.1
theorem k0_idx23_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v80] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.1
theorem k0_idx25_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v86] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.1
theorem k0_idx27_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v92] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.1
theorem k0_idx29_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v98] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.1
theorem k0_idx31_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v104] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.2.1
theorem k0_idx33_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v110] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.2.2.1
theorem k0_idx35_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v116] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.2.2.2.1
theorem k0_idx37_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v122] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.2.2.2.2.1
theorem k0_idx39_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v128] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.2.2.2.2.2.1
theorem k0_idx41_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v134] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.2.2.2.2.2.2.1
theorem k0_idx43_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v140] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.2.2.2.2.2.2.2.1
theorem k0_idx45_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v146] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.2.2.2.2.2.2.2.2.1
theorem k0_idx47_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v152] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.2.2.2.2.2.2.2.2.2.1
theorem k0_idx49_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v158] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.2.2.2.2.2.2.2.2.2.2.1
theorem k0_idx51_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v164] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.2.2.2.2.2.2.2.2.2.2.2.1
theorem k0_idx53_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v170] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.2.2.2.2.2.2.2.2.2.2.2.2.1
theorem k0_idx55_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v176] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.2.2.2.2.2.2.2.2.2.2.2.2.2.1
theorem k0_idx57_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v182] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.2.2.2.2.2.2.2.2.2.2.2.2.2.2.1
theorem k0_idx59_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v188] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.2.2.2.2.2.2.2.2.2.2.2.2.2.2.2.1
theorem k0_idx61_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v194] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.2.2.2.2.2.2.2.2.2.2.2.2.2.2.2.2.1
theorem k0_idx63_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v200] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.1.2.2.2.2.2.2.2.2.2.2.2.2.2.2.2.2.2.2.2.2.2.2.2.2.2.2.2.2.2.2.2
theorem k0_idx65_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v206] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.1
theorem k0_idx67_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v212] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.1
theorem k0_idx69_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v218] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.1
theorem k0_idx71_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v224] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.1
theorem k0_idx73_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v230] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.1
theorem k0_idx75_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v236] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.1
theorem k0_idx77_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v242] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.1
theorem k0_idx79_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v248] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.1
theorem k0_idx81_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v254] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.1
theorem k0_idx83_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v260] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.1
theorem k0_idx85_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v266] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.1
theorem k0_idx87_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v272] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.1
theorem k0_idx89_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v278] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.1
theorem k0_idx91_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v284] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.1
theorem k0_idx93_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v290] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.1
theorem k0_idx95_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v296] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.2.1
theorem k0_idx97_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v302] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.2.2.1
theorem k0_idx99_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v308] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.2.2.2.1
theorem k0_idx101_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v314] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.2.2.2.2.1
theorem k0_idx103_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v320] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.2.2.2.2.2.1
theorem k0_idx105_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v326] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.2.2.2.2.2.2.1
theorem k0_idx107_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v332] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.2.2.2.2.2.2.2.1
theorem k0_idx109_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v338] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.2.2.2.2.2.2.2.2.1
theorem k0_idx111_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v344] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.2.2.2.2.2.2.2.2.2.1
theorem k0_idx113_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v350] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.2.2.2.2.2.2.2.2.2.2.1
theorem k0_idx115_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v356] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.2.2.2.2.2.2.2.2.2.2.2.1
theorem k0_idx117_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v362] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.2.2.2.2.2.2.2.2.2.2.2.2.1
theorem k0_idx119_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v368] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.2.2.2.2.2.2.2.2.2.2.2.2.2.1
theorem k0_idx121_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v374] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.2.2.2.2.2.2.2.2.2.2.2.2.2.2.1
theorem k0_idx123_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v380] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.2.2.2.2.2.2.2.2.2.2.2.2.2.2.2.1
theorem k0_idx125_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v386] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.2.2.2.2.2.2.2.2.2.2.2.2.2.2.2.2.1
theorem k0_idx127_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw1 : k0_chk1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v392] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw1 => k0_hw1.2.2.2.2.2.2.2.2.2.2.2.2.2.2.2.2.2.2.2.2.2.2.2.2.2.2.2.2.2.2.2.2

def k0_chk2_0 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) : Prop :=
  (∀ a x, ((![v433, v14] : Fin 2 → IVec S16 32) a x).toNat < S512x64.size a) ∧
  (∀ a x, ((![v433, v20] : Fin 2 → IVec S16 32) a x).toNat < S512x64.size a) ∧
  (∀ a x, ((![v433, v26] : Fin 2 → IVec S16 32) a x).toNat < S512x64.size a) ∧
  (∀ a x, ((![v433, v32] : Fin 2 → IVec S16 32) a x).toNat < S512x64.size a) ∧
  (∀ a x, ((![v433, v38] : Fin 2 → IVec S16 32) a x).toNat < S512x64.size a) ∧
  (∀ a x, ((![v433, v44] : Fin 2 → IVec S16 32) a x).toNat < S512x64.size a) ∧
  (∀ a x, ((![v433, v50] : Fin 2 → IVec S16 32) a x).toNat < S512x64.size a) ∧
  (∀ a x, ((![v433, v56] : Fin 2 → IVec S16 32) a x).toNat < S512x64.size a) ∧
  (∀ a x, ((![v433, v62] : Fin 2 → IVec S16 32) a x).toNat < S512x64.size a) ∧
  (∀ a x, ((![v433, v68] : Fin 2 → IVec S16 32) a x).toNat < S512x64.size a) ∧
  (∀ a x, ((![v433, v74] : Fin 2 → IVec S16 32) a x).toNat < S512x64.size a) ∧
  (∀ a x, ((![v433, v80] : Fin 2 → IVec S16 32) a x).toNat < S512x64.size a) ∧
  (∀ a x, ((![v433, v86] : Fin 2 → IVec S16 32) a x).toNat < S512x64.size a) ∧
  (∀ a x, ((![v433, v92] : Fin 2 → IVec S16 32) a x).toNat < S512x64.size a) ∧
  (∀ a x, ((![v433, v98] : Fin 2 → IVec S16 32) a x).toNat < S512x64.size a) ∧
  (∀ a x, ((![v433, v104] : Fin 2 → IVec S16 32) a x).toNat < S512x64.size a) ∧
  (∀ a x, ((![v433, v110] : Fin 2 → IVec S16 32) a x).toNat < S512x64.size a) ∧
  (∀ a x, ((![v433, v116] : Fin 2 → IVec S16 32) a x).toNat < S512x64.size a) ∧
  (∀ a x, ((![v433, v122] : Fin 2 → IVec S16 32) a x).toNat < S512x64.size a) ∧
  (∀ a x, ((![v433, v128] : Fin 2 → IVec S16 32) a x).toNat < S512x64.size a) ∧
  (∀ a x, ((![v433, v134] : Fin 2 → IVec S16 32) a x).toNat < S512x64.size a) ∧
  (∀ a x, ((![v433, v140] : Fin 2 → IVec S16 32) a x).toNat < S512x64.size a) ∧
  (∀ a x, ((![v433, v146] : Fin 2 → IVec S16 32) a x).toNat < S512x64.size a) ∧
  (∀ a x, ((![v433, v152] : Fin 2 → IVec S16 32) a x).toNat < S512x64.size a) ∧
  (∀ a x, ((![v433, v158] : Fin 2 → IVec S16 32) a x).toNat < S512x64.size a) ∧
  (∀ a x, ((![v433, v164] : Fin 2 → IVec S16 32) a x).toNat < S512x64.size a) ∧
  (∀ a x, ((![v433, v170] : Fin 2 → IVec S16 32) a x).toNat < S512x64.size a) ∧
  (∀ a x, ((![v433, v176] : Fin 2 → IVec S16 32) a x).toNat < S512x64.size a) ∧
  (∀ a x, ((![v433, v182] : Fin 2 → IVec S16 32) a x).toNat < S512x64.size a) ∧
  (∀ a x, ((![v433, v188] : Fin 2 → IVec S16 32) a x).toNat < S512x64.size a) ∧
  (∀ a x, ((![v433, v194] : Fin 2 → IVec S16 32) a x).toNat < S512x64.size a) ∧
  (∀ a x, ((![v433, v200] : Fin 2 → IVec S16 32) a x).toNat < S512x64.size a)
def k0_chk2_1 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) : Prop :=
  (∀ a x, ((![v433, v206] : Fin 2 → IVec S16 32) a x).toNat < S512x64.size a) ∧
  (∀ a x, ((![v433, v212] : Fin 2 → IVec S16 32) a x).toNat < S512x64.size a) ∧
  (∀ a x, ((![v433, v218] : Fin 2 → IVec S16 32) a x).toNat < S512x64.size a) ∧
  (∀ a x, ((![v433, v224] : Fin 2 → IVec S16 32) a x).toNat < S512x64.size a) ∧
  (∀ a x, ((![v433, v230] : Fin 2 → IVec S16 32) a x).toNat < S512x64.size a) ∧
  (∀ a x, ((![v433, v236] : Fin 2 → IVec S16 32) a x).toNat < S512x64.size a) ∧
  (∀ a x, ((![v433, v242] : Fin 2 → IVec S16 32) a x).toNat < S512x64.size a) ∧
  (∀ a x, ((![v433, v248] : Fin 2 → IVec S16 32) a x).toNat < S512x64.size a) ∧
  (∀ a x, ((![v433, v254] : Fin 2 → IVec S16 32) a x).toNat < S512x64.size a) ∧
  (∀ a x, ((![v433, v260] : Fin 2 → IVec S16 32) a x).toNat < S512x64.size a) ∧
  (∀ a x, ((![v433, v266] : Fin 2 → IVec S16 32) a x).toNat < S512x64.size a) ∧
  (∀ a x, ((![v433, v272] : Fin 2 → IVec S16 32) a x).toNat < S512x64.size a) ∧
  (∀ a x, ((![v433, v278] : Fin 2 → IVec S16 32) a x).toNat < S512x64.size a) ∧
  (∀ a x, ((![v433, v284] : Fin 2 → IVec S16 32) a x).toNat < S512x64.size a) ∧
  (∀ a x, ((![v433, v290] : Fin 2 → IVec S16 32) a x).toNat < S512x64.size a) ∧
  (∀ a x, ((![v433, v296] : Fin 2 → IVec S16 32) a x).toNat < S512x64.size a) ∧
  (∀ a x, ((![v433, v302] : Fin 2 → IVec S16 32) a x).toNat < S512x64.size a) ∧
  (∀ a x, ((![v433, v308] : Fin 2 → IVec S16 32) a x).toNat < S512x64.size a) ∧
  (∀ a x, ((![v433, v314] : Fin 2 → IVec S16 32) a x).toNat < S512x64.size a) ∧
  (∀ a x, ((![v433, v320] : Fin 2 → IVec S16 32) a x).toNat < S512x64.size a) ∧
  (∀ a x, ((![v433, v326] : Fin 2 → IVec S16 32) a x).toNat < S512x64.size a) ∧
  (∀ a x, ((![v433, v332] : Fin 2 → IVec S16 32) a x).toNat < S512x64.size a) ∧
  (∀ a x, ((![v433, v338] : Fin 2 → IVec S16 32) a x).toNat < S512x64.size a) ∧
  (∀ a x, ((![v433, v344] : Fin 2 → IVec S16 32) a x).toNat < S512x64.size a) ∧
  (∀ a x, ((![v433, v350] : Fin 2 → IVec S16 32) a x).toNat < S512x64.size a) ∧
  (∀ a x, ((![v433, v356] : Fin 2 → IVec S16 32) a x).toNat < S512x64.size a) ∧
  (∀ a x, ((![v433, v362] : Fin 2 → IVec S16 32) a x).toNat < S512x64.size a) ∧
  (∀ a x, ((![v433, v368] : Fin 2 → IVec S16 32) a x).toNat < S512x64.size a) ∧
  (∀ a x, ((![v433, v374] : Fin 2 → IVec S16 32) a x).toNat < S512x64.size a) ∧
  (∀ a x, ((![v433, v380] : Fin 2 → IVec S16 32) a x).toNat < S512x64.size a) ∧
  (∀ a x, ((![v433, v386] : Fin 2 → IVec S16 32) a x).toNat < S512x64.size a) ∧
  (∀ a x, ((![v433, v392] : Fin 2 → IVec S16 32) a x).toNat < S512x64.size a)
def k0_chk2 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) : Prop :=
  k0_chk2_0 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 ∧
  k0_chk2_1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433
theorem k0_idx2_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v14] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.1
theorem k0_idx4_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v20] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.1
theorem k0_idx6_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v26] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.1
theorem k0_idx8_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v32] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.1
theorem k0_idx10_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v38] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.1
theorem k0_idx12_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v44] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.1
theorem k0_idx14_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v50] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.1
theorem k0_idx16_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v56] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.1
theorem k0_idx18_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v62] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.1
theorem k0_idx20_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v68] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.1
theorem k0_idx22_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v74] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.1
theorem k0_idx24_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v80] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.1
theorem k0_idx26_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v86] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.1
theorem k0_idx28_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v92] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.1
theorem k0_idx30_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v98] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.1
theorem k0_idx32_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v104] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.2.1
theorem k0_idx34_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v110] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.2.2.1
theorem k0_idx36_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v116] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.2.2.2.1
theorem k0_idx38_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v122] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.2.2.2.2.1
theorem k0_idx40_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v128] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.2.2.2.2.2.1
theorem k0_idx42_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v134] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.2.2.2.2.2.2.1
theorem k0_idx44_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v140] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.2.2.2.2.2.2.2.1
theorem k0_idx46_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v146] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.2.2.2.2.2.2.2.2.1
theorem k0_idx48_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v152] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.2.2.2.2.2.2.2.2.2.1
theorem k0_idx50_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v158] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.2.2.2.2.2.2.2.2.2.2.1
theorem k0_idx52_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v164] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.2.2.2.2.2.2.2.2.2.2.2.1
theorem k0_idx54_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v170] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.2.2.2.2.2.2.2.2.2.2.2.2.1
theorem k0_idx56_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v176] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.2.2.2.2.2.2.2.2.2.2.2.2.2.1
theorem k0_idx58_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v182] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.2.2.2.2.2.2.2.2.2.2.2.2.2.2.1
theorem k0_idx60_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v188] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.2.2.2.2.2.2.2.2.2.2.2.2.2.2.2.1
theorem k0_idx62_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v194] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.2.2.2.2.2.2.2.2.2.2.2.2.2.2.2.2.1
theorem k0_idx64_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v200] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.1.2.2.2.2.2.2.2.2.2.2.2.2.2.2.2.2.2.2.2.2.2.2.2.2.2.2.2.2.2.2.2
theorem k0_idx66_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v206] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.1
theorem k0_idx68_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v212] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.1
theorem k0_idx70_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v218] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.1
theorem k0_idx72_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v224] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.1
theorem k0_idx74_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v230] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.1
theorem k0_idx76_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v236] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.1
theorem k0_idx78_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v242] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.1
theorem k0_idx80_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v248] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.1
theorem k0_idx82_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v254] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.1
theorem k0_idx84_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v260] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.1
theorem k0_idx86_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v266] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.1
theorem k0_idx88_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v272] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.1
theorem k0_idx90_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v278] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.1
theorem k0_idx92_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v284] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.1
theorem k0_idx94_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v290] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.1
theorem k0_idx96_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v296] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.2.1
theorem k0_idx98_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v302] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.2.2.1
theorem k0_idx100_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v308] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.2.2.2.1
theorem k0_idx102_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v314] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.2.2.2.2.1
theorem k0_idx104_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v320] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.2.2.2.2.2.1
theorem k0_idx106_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v326] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.2.2.2.2.2.2.1
theorem k0_idx108_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v332] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.2.2.2.2.2.2.2.1
theorem k0_idx110_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v338] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.2.2.2.2.2.2.2.2.1
theorem k0_idx112_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v344] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.2.2.2.2.2.2.2.2.2.1
theorem k0_idx114_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v350] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.2.2.2.2.2.2.2.2.2.2.1
theorem k0_idx116_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v356] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.2.2.2.2.2.2.2.2.2.2.2.1
theorem k0_idx118_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v362] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.2.2.2.2.2.2.2.2.2.2.2.2.1
theorem k0_idx120_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v368] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.2.2.2.2.2.2.2.2.2.2.2.2.2.1
theorem k0_idx122_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v374] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.2.2.2.2.2.2.2.2.2.2.2.2.2.2.1
theorem k0_idx124_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v380] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.2.2.2.2.2.2.2.2.2.2.2.2.2.2.2.1
theorem k0_idx126_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v386] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.2.2.2.2.2.2.2.2.2.2.2.2.2.2.2.2.1
theorem k0_idx128_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw2 : k0_chk2 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v392] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw2 => k0_hw2.2.2.2.2.2.2.2.2.2.2.2.2.2.2.2.2.2.2.2.2.2.2.2.2.2.2.2.2.2.2.2.2
def k0_off4 (i : grid0.Coords) (c0_i32_185 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let v395 : BitVec 32 := Scalar.addi v2 c0_i32_185
  let c0_i32_189 : BitVec 32 := 0#32
  ![v395.toNat, 0]
def k0_off4_at (r : Fin 4) : BitVec 32 :=
  if r.val < 2 then
    if r.val < 1 then
      0#32
    else
      512#32
  else
    if r.val < 3 then
      24576#32
    else
      25088#32
@[reducible] def k0_t3_loop : Scf.Loop 32 :=
  let c0_i32_194 : BitVec 32 := 0#32
  let c32_i32_195 : BitVec 32 := 32#32
  let v402 : BitVec 32 := Scalar.addi c0_i32_194 c32_i32_195
  let c1_i32_196 : BitVec 32 := 1#32
  ⟨c0_i32_194, v402, c1_i32_196⟩
def k0_off5 (k0_t3 : Fin k0_t3_loop.trips) : Fin 1 → Nat :=
  let c512_i32_224 : BitVec 32 := 512#32
  let c0_i32_194 : BitVec 32 := 0#32
  let c1_i32_196 : BitVec 32 := 1#32
  let arg10 : BitVec 32 := Scf.iv c0_i32_194 c1_i32_196 k0_t3
  let c16_i32_223 : BitVec 32 := 16#32
  let v427 : BitVec 32 := Scalar.muli arg10 c16_i32_223
  let v428 : BitVec 32 := Scalar.addi c512_i32_224 v427
  let v429 : Index := Scalar.indexCast v428
  ![v429.toNat]

def k0_chk3_0 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) : Prop :=
  (∀ a x, ((![v430, v14] : Fin 2 → IVec S16 32) a x).toNat < S208x64.size a) ∧
  (∀ a x, ((![v430, v20] : Fin 2 → IVec S16 32) a x).toNat < S208x64.size a) ∧
  (∀ a x, ((![v430, v26] : Fin 2 → IVec S16 32) a x).toNat < S208x64.size a) ∧
  (∀ a x, ((![v430, v32] : Fin 2 → IVec S16 32) a x).toNat < S208x64.size a) ∧
  (∀ a x, ((![v430, v38] : Fin 2 → IVec S16 32) a x).toNat < S208x64.size a) ∧
  (∀ a x, ((![v430, v44] : Fin 2 → IVec S16 32) a x).toNat < S208x64.size a) ∧
  (∀ a x, ((![v430, v50] : Fin 2 → IVec S16 32) a x).toNat < S208x64.size a) ∧
  (∀ a x, ((![v430, v56] : Fin 2 → IVec S16 32) a x).toNat < S208x64.size a) ∧
  (∀ a x, ((![v430, v62] : Fin 2 → IVec S16 32) a x).toNat < S208x64.size a) ∧
  (∀ a x, ((![v430, v68] : Fin 2 → IVec S16 32) a x).toNat < S208x64.size a) ∧
  (∀ a x, ((![v430, v74] : Fin 2 → IVec S16 32) a x).toNat < S208x64.size a) ∧
  (∀ a x, ((![v430, v80] : Fin 2 → IVec S16 32) a x).toNat < S208x64.size a) ∧
  (∀ a x, ((![v430, v86] : Fin 2 → IVec S16 32) a x).toNat < S208x64.size a) ∧
  (∀ a x, ((![v430, v92] : Fin 2 → IVec S16 32) a x).toNat < S208x64.size a) ∧
  (∀ a x, ((![v430, v98] : Fin 2 → IVec S16 32) a x).toNat < S208x64.size a) ∧
  (∀ a x, ((![v430, v104] : Fin 2 → IVec S16 32) a x).toNat < S208x64.size a) ∧
  (∀ a x, ((![v430, v110] : Fin 2 → IVec S16 32) a x).toNat < S208x64.size a) ∧
  (∀ a x, ((![v430, v116] : Fin 2 → IVec S16 32) a x).toNat < S208x64.size a) ∧
  (∀ a x, ((![v430, v122] : Fin 2 → IVec S16 32) a x).toNat < S208x64.size a) ∧
  (∀ a x, ((![v430, v128] : Fin 2 → IVec S16 32) a x).toNat < S208x64.size a) ∧
  (∀ a x, ((![v430, v134] : Fin 2 → IVec S16 32) a x).toNat < S208x64.size a) ∧
  (∀ a x, ((![v430, v140] : Fin 2 → IVec S16 32) a x).toNat < S208x64.size a) ∧
  (∀ a x, ((![v430, v146] : Fin 2 → IVec S16 32) a x).toNat < S208x64.size a) ∧
  (∀ a x, ((![v430, v152] : Fin 2 → IVec S16 32) a x).toNat < S208x64.size a) ∧
  (∀ a x, ((![v430, v158] : Fin 2 → IVec S16 32) a x).toNat < S208x64.size a) ∧
  (∀ a x, ((![v430, v164] : Fin 2 → IVec S16 32) a x).toNat < S208x64.size a) ∧
  (∀ a x, ((![v430, v170] : Fin 2 → IVec S16 32) a x).toNat < S208x64.size a) ∧
  (∀ a x, ((![v430, v176] : Fin 2 → IVec S16 32) a x).toNat < S208x64.size a) ∧
  (∀ a x, ((![v430, v182] : Fin 2 → IVec S16 32) a x).toNat < S208x64.size a) ∧
  (∀ a x, ((![v430, v188] : Fin 2 → IVec S16 32) a x).toNat < S208x64.size a) ∧
  (∀ a x, ((![v430, v194] : Fin 2 → IVec S16 32) a x).toNat < S208x64.size a) ∧
  (∀ a x, ((![v430, v200] : Fin 2 → IVec S16 32) a x).toNat < S208x64.size a)
def k0_chk3_1 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) : Prop :=
  (∀ a x, ((![v430, v206] : Fin 2 → IVec S16 32) a x).toNat < S208x64.size a) ∧
  (∀ a x, ((![v430, v212] : Fin 2 → IVec S16 32) a x).toNat < S208x64.size a) ∧
  (∀ a x, ((![v430, v218] : Fin 2 → IVec S16 32) a x).toNat < S208x64.size a) ∧
  (∀ a x, ((![v430, v224] : Fin 2 → IVec S16 32) a x).toNat < S208x64.size a) ∧
  (∀ a x, ((![v430, v230] : Fin 2 → IVec S16 32) a x).toNat < S208x64.size a) ∧
  (∀ a x, ((![v430, v236] : Fin 2 → IVec S16 32) a x).toNat < S208x64.size a) ∧
  (∀ a x, ((![v430, v242] : Fin 2 → IVec S16 32) a x).toNat < S208x64.size a) ∧
  (∀ a x, ((![v430, v248] : Fin 2 → IVec S16 32) a x).toNat < S208x64.size a) ∧
  (∀ a x, ((![v430, v254] : Fin 2 → IVec S16 32) a x).toNat < S208x64.size a) ∧
  (∀ a x, ((![v430, v260] : Fin 2 → IVec S16 32) a x).toNat < S208x64.size a) ∧
  (∀ a x, ((![v430, v266] : Fin 2 → IVec S16 32) a x).toNat < S208x64.size a) ∧
  (∀ a x, ((![v430, v272] : Fin 2 → IVec S16 32) a x).toNat < S208x64.size a) ∧
  (∀ a x, ((![v430, v278] : Fin 2 → IVec S16 32) a x).toNat < S208x64.size a) ∧
  (∀ a x, ((![v430, v284] : Fin 2 → IVec S16 32) a x).toNat < S208x64.size a) ∧
  (∀ a x, ((![v430, v290] : Fin 2 → IVec S16 32) a x).toNat < S208x64.size a) ∧
  (∀ a x, ((![v430, v296] : Fin 2 → IVec S16 32) a x).toNat < S208x64.size a) ∧
  (∀ a x, ((![v430, v302] : Fin 2 → IVec S16 32) a x).toNat < S208x64.size a) ∧
  (∀ a x, ((![v430, v308] : Fin 2 → IVec S16 32) a x).toNat < S208x64.size a) ∧
  (∀ a x, ((![v430, v314] : Fin 2 → IVec S16 32) a x).toNat < S208x64.size a) ∧
  (∀ a x, ((![v430, v320] : Fin 2 → IVec S16 32) a x).toNat < S208x64.size a) ∧
  (∀ a x, ((![v430, v326] : Fin 2 → IVec S16 32) a x).toNat < S208x64.size a) ∧
  (∀ a x, ((![v430, v332] : Fin 2 → IVec S16 32) a x).toNat < S208x64.size a) ∧
  (∀ a x, ((![v430, v338] : Fin 2 → IVec S16 32) a x).toNat < S208x64.size a) ∧
  (∀ a x, ((![v430, v344] : Fin 2 → IVec S16 32) a x).toNat < S208x64.size a) ∧
  (∀ a x, ((![v430, v350] : Fin 2 → IVec S16 32) a x).toNat < S208x64.size a) ∧
  (∀ a x, ((![v430, v356] : Fin 2 → IVec S16 32) a x).toNat < S208x64.size a) ∧
  (∀ a x, ((![v430, v362] : Fin 2 → IVec S16 32) a x).toNat < S208x64.size a) ∧
  (∀ a x, ((![v430, v368] : Fin 2 → IVec S16 32) a x).toNat < S208x64.size a) ∧
  (∀ a x, ((![v430, v374] : Fin 2 → IVec S16 32) a x).toNat < S208x64.size a) ∧
  (∀ a x, ((![v430, v380] : Fin 2 → IVec S16 32) a x).toNat < S208x64.size a) ∧
  (∀ a x, ((![v430, v386] : Fin 2 → IVec S16 32) a x).toNat < S208x64.size a) ∧
  (∀ a x, ((![v430, v392] : Fin 2 → IVec S16 32) a x).toNat < S208x64.size a)
def k0_chk3 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) : Prop :=
  k0_chk3_0 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 ∧
  k0_chk3_1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430
theorem k0_idx129_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v14] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.1
theorem k0_idx131_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v20] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.1
theorem k0_idx133_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v26] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.1
theorem k0_idx135_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v32] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.1
theorem k0_idx137_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v38] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.1
theorem k0_idx139_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v44] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.1
theorem k0_idx141_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v50] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.1
theorem k0_idx143_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v56] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.1
theorem k0_idx145_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v62] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.1
theorem k0_idx147_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v68] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.1
theorem k0_idx149_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v74] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.1
theorem k0_idx151_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v80] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.1
theorem k0_idx153_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v86] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.1
theorem k0_idx155_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v92] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.1
theorem k0_idx157_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v98] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.1
theorem k0_idx159_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v104] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.2.1
theorem k0_idx161_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v110] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.2.2.1
theorem k0_idx163_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v116] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.2.2.2.1
theorem k0_idx165_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v122] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.2.2.2.2.1
theorem k0_idx167_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v128] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.2.2.2.2.2.1
theorem k0_idx169_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v134] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.2.2.2.2.2.2.1
theorem k0_idx171_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v140] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.2.2.2.2.2.2.2.1
theorem k0_idx173_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v146] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.2.2.2.2.2.2.2.2.1
theorem k0_idx175_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v152] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.2.2.2.2.2.2.2.2.2.1
theorem k0_idx177_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v158] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.2.2.2.2.2.2.2.2.2.2.1
theorem k0_idx179_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v164] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.2.2.2.2.2.2.2.2.2.2.2.1
theorem k0_idx181_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v170] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.2.2.2.2.2.2.2.2.2.2.2.2.1
theorem k0_idx183_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v176] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.2.2.2.2.2.2.2.2.2.2.2.2.2.1
theorem k0_idx185_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v182] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.2.2.2.2.2.2.2.2.2.2.2.2.2.2.1
theorem k0_idx187_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v188] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.2.2.2.2.2.2.2.2.2.2.2.2.2.2.2.1
theorem k0_idx189_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v194] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.2.2.2.2.2.2.2.2.2.2.2.2.2.2.2.2.1
theorem k0_idx191_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v200] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.1.2.2.2.2.2.2.2.2.2.2.2.2.2.2.2.2.2.2.2.2.2.2.2.2.2.2.2.2.2.2.2
theorem k0_idx193_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v206] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.1
theorem k0_idx195_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v212] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.1
theorem k0_idx197_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v218] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.1
theorem k0_idx199_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v224] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.1
theorem k0_idx201_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v230] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.1
theorem k0_idx203_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v236] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.1
theorem k0_idx205_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v242] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.1
theorem k0_idx207_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v248] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.1
theorem k0_idx209_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v254] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.1
theorem k0_idx211_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v260] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.1
theorem k0_idx213_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v266] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.1
theorem k0_idx215_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v272] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.1
theorem k0_idx217_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v278] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.1
theorem k0_idx219_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v284] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.1
theorem k0_idx221_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v290] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.1
theorem k0_idx223_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v296] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.2.1
theorem k0_idx225_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v302] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.2.2.1
theorem k0_idx227_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v308] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.2.2.2.1
theorem k0_idx229_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v314] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.2.2.2.2.1
theorem k0_idx231_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v320] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.2.2.2.2.2.1
theorem k0_idx233_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v326] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.2.2.2.2.2.2.1
theorem k0_idx235_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v332] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.2.2.2.2.2.2.2.1
theorem k0_idx237_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v338] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.2.2.2.2.2.2.2.2.1
theorem k0_idx239_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v344] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.2.2.2.2.2.2.2.2.2.1
theorem k0_idx241_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v350] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.2.2.2.2.2.2.2.2.2.2.1
theorem k0_idx243_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v356] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.2.2.2.2.2.2.2.2.2.2.2.1
theorem k0_idx245_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v362] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.2.2.2.2.2.2.2.2.2.2.2.2.1
theorem k0_idx247_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v368] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.2.2.2.2.2.2.2.2.2.2.2.2.2.1
theorem k0_idx249_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v374] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.2.2.2.2.2.2.2.2.2.2.2.2.2.2.1
theorem k0_idx251_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v380] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.2.2.2.2.2.2.2.2.2.2.2.2.2.2.2.1
theorem k0_idx253_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v386] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.2.2.2.2.2.2.2.2.2.2.2.2.2.2.2.2.1
theorem k0_idx255_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v430 : IVec S16 32) (k0_hw3 : k0_chk3 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430), ∀ a x, ((![v430, v392] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v430 k0_hw3 => k0_hw3.2.2.2.2.2.2.2.2.2.2.2.2.2.2.2.2.2.2.2.2.2.2.2.2.2.2.2.2.2.2.2.2

def k0_chk4_0 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) : Prop :=
  (∀ a x, ((![v433, v14] : Fin 2 → IVec S16 32) a x).toNat < S512x64.size a) ∧
  (∀ a x, ((![v433, v20] : Fin 2 → IVec S16 32) a x).toNat < S512x64.size a) ∧
  (∀ a x, ((![v433, v26] : Fin 2 → IVec S16 32) a x).toNat < S512x64.size a) ∧
  (∀ a x, ((![v433, v32] : Fin 2 → IVec S16 32) a x).toNat < S512x64.size a) ∧
  (∀ a x, ((![v433, v38] : Fin 2 → IVec S16 32) a x).toNat < S512x64.size a) ∧
  (∀ a x, ((![v433, v44] : Fin 2 → IVec S16 32) a x).toNat < S512x64.size a) ∧
  (∀ a x, ((![v433, v50] : Fin 2 → IVec S16 32) a x).toNat < S512x64.size a) ∧
  (∀ a x, ((![v433, v56] : Fin 2 → IVec S16 32) a x).toNat < S512x64.size a) ∧
  (∀ a x, ((![v433, v62] : Fin 2 → IVec S16 32) a x).toNat < S512x64.size a) ∧
  (∀ a x, ((![v433, v68] : Fin 2 → IVec S16 32) a x).toNat < S512x64.size a) ∧
  (∀ a x, ((![v433, v74] : Fin 2 → IVec S16 32) a x).toNat < S512x64.size a) ∧
  (∀ a x, ((![v433, v80] : Fin 2 → IVec S16 32) a x).toNat < S512x64.size a) ∧
  (∀ a x, ((![v433, v86] : Fin 2 → IVec S16 32) a x).toNat < S512x64.size a) ∧
  (∀ a x, ((![v433, v92] : Fin 2 → IVec S16 32) a x).toNat < S512x64.size a) ∧
  (∀ a x, ((![v433, v98] : Fin 2 → IVec S16 32) a x).toNat < S512x64.size a) ∧
  (∀ a x, ((![v433, v104] : Fin 2 → IVec S16 32) a x).toNat < S512x64.size a) ∧
  (∀ a x, ((![v433, v110] : Fin 2 → IVec S16 32) a x).toNat < S512x64.size a) ∧
  (∀ a x, ((![v433, v116] : Fin 2 → IVec S16 32) a x).toNat < S512x64.size a) ∧
  (∀ a x, ((![v433, v122] : Fin 2 → IVec S16 32) a x).toNat < S512x64.size a) ∧
  (∀ a x, ((![v433, v128] : Fin 2 → IVec S16 32) a x).toNat < S512x64.size a) ∧
  (∀ a x, ((![v433, v134] : Fin 2 → IVec S16 32) a x).toNat < S512x64.size a) ∧
  (∀ a x, ((![v433, v140] : Fin 2 → IVec S16 32) a x).toNat < S512x64.size a) ∧
  (∀ a x, ((![v433, v146] : Fin 2 → IVec S16 32) a x).toNat < S512x64.size a) ∧
  (∀ a x, ((![v433, v152] : Fin 2 → IVec S16 32) a x).toNat < S512x64.size a) ∧
  (∀ a x, ((![v433, v158] : Fin 2 → IVec S16 32) a x).toNat < S512x64.size a) ∧
  (∀ a x, ((![v433, v164] : Fin 2 → IVec S16 32) a x).toNat < S512x64.size a) ∧
  (∀ a x, ((![v433, v170] : Fin 2 → IVec S16 32) a x).toNat < S512x64.size a) ∧
  (∀ a x, ((![v433, v176] : Fin 2 → IVec S16 32) a x).toNat < S512x64.size a) ∧
  (∀ a x, ((![v433, v182] : Fin 2 → IVec S16 32) a x).toNat < S512x64.size a) ∧
  (∀ a x, ((![v433, v188] : Fin 2 → IVec S16 32) a x).toNat < S512x64.size a) ∧
  (∀ a x, ((![v433, v194] : Fin 2 → IVec S16 32) a x).toNat < S512x64.size a) ∧
  (∀ a x, ((![v433, v200] : Fin 2 → IVec S16 32) a x).toNat < S512x64.size a)
def k0_chk4_1 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) : Prop :=
  (∀ a x, ((![v433, v206] : Fin 2 → IVec S16 32) a x).toNat < S512x64.size a) ∧
  (∀ a x, ((![v433, v212] : Fin 2 → IVec S16 32) a x).toNat < S512x64.size a) ∧
  (∀ a x, ((![v433, v218] : Fin 2 → IVec S16 32) a x).toNat < S512x64.size a) ∧
  (∀ a x, ((![v433, v224] : Fin 2 → IVec S16 32) a x).toNat < S512x64.size a) ∧
  (∀ a x, ((![v433, v230] : Fin 2 → IVec S16 32) a x).toNat < S512x64.size a) ∧
  (∀ a x, ((![v433, v236] : Fin 2 → IVec S16 32) a x).toNat < S512x64.size a) ∧
  (∀ a x, ((![v433, v242] : Fin 2 → IVec S16 32) a x).toNat < S512x64.size a) ∧
  (∀ a x, ((![v433, v248] : Fin 2 → IVec S16 32) a x).toNat < S512x64.size a) ∧
  (∀ a x, ((![v433, v254] : Fin 2 → IVec S16 32) a x).toNat < S512x64.size a) ∧
  (∀ a x, ((![v433, v260] : Fin 2 → IVec S16 32) a x).toNat < S512x64.size a) ∧
  (∀ a x, ((![v433, v266] : Fin 2 → IVec S16 32) a x).toNat < S512x64.size a) ∧
  (∀ a x, ((![v433, v272] : Fin 2 → IVec S16 32) a x).toNat < S512x64.size a) ∧
  (∀ a x, ((![v433, v278] : Fin 2 → IVec S16 32) a x).toNat < S512x64.size a) ∧
  (∀ a x, ((![v433, v284] : Fin 2 → IVec S16 32) a x).toNat < S512x64.size a) ∧
  (∀ a x, ((![v433, v290] : Fin 2 → IVec S16 32) a x).toNat < S512x64.size a) ∧
  (∀ a x, ((![v433, v296] : Fin 2 → IVec S16 32) a x).toNat < S512x64.size a) ∧
  (∀ a x, ((![v433, v302] : Fin 2 → IVec S16 32) a x).toNat < S512x64.size a) ∧
  (∀ a x, ((![v433, v308] : Fin 2 → IVec S16 32) a x).toNat < S512x64.size a) ∧
  (∀ a x, ((![v433, v314] : Fin 2 → IVec S16 32) a x).toNat < S512x64.size a) ∧
  (∀ a x, ((![v433, v320] : Fin 2 → IVec S16 32) a x).toNat < S512x64.size a) ∧
  (∀ a x, ((![v433, v326] : Fin 2 → IVec S16 32) a x).toNat < S512x64.size a) ∧
  (∀ a x, ((![v433, v332] : Fin 2 → IVec S16 32) a x).toNat < S512x64.size a) ∧
  (∀ a x, ((![v433, v338] : Fin 2 → IVec S16 32) a x).toNat < S512x64.size a) ∧
  (∀ a x, ((![v433, v344] : Fin 2 → IVec S16 32) a x).toNat < S512x64.size a) ∧
  (∀ a x, ((![v433, v350] : Fin 2 → IVec S16 32) a x).toNat < S512x64.size a) ∧
  (∀ a x, ((![v433, v356] : Fin 2 → IVec S16 32) a x).toNat < S512x64.size a) ∧
  (∀ a x, ((![v433, v362] : Fin 2 → IVec S16 32) a x).toNat < S512x64.size a) ∧
  (∀ a x, ((![v433, v368] : Fin 2 → IVec S16 32) a x).toNat < S512x64.size a) ∧
  (∀ a x, ((![v433, v374] : Fin 2 → IVec S16 32) a x).toNat < S512x64.size a) ∧
  (∀ a x, ((![v433, v380] : Fin 2 → IVec S16 32) a x).toNat < S512x64.size a) ∧
  (∀ a x, ((![v433, v386] : Fin 2 → IVec S16 32) a x).toNat < S512x64.size a) ∧
  (∀ a x, ((![v433, v392] : Fin 2 → IVec S16 32) a x).toNat < S512x64.size a)
def k0_chk4 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) : Prop :=
  k0_chk4_0 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 ∧
  k0_chk4_1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433
theorem k0_idx130_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v14] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.1
theorem k0_idx132_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v20] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.1
theorem k0_idx134_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v26] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.1
theorem k0_idx136_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v32] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.1
theorem k0_idx138_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v38] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.1
theorem k0_idx140_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v44] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.1
theorem k0_idx142_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v50] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.1
theorem k0_idx144_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v56] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.1
theorem k0_idx146_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v62] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.1
theorem k0_idx148_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v68] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.1
theorem k0_idx150_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v74] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.1
theorem k0_idx152_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v80] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.1
theorem k0_idx154_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v86] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.1
theorem k0_idx156_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v92] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.1
theorem k0_idx158_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v98] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.1
theorem k0_idx160_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v104] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.2.1
theorem k0_idx162_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v110] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.2.2.1
theorem k0_idx164_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v116] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.2.2.2.1
theorem k0_idx166_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v122] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.2.2.2.2.1
theorem k0_idx168_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v128] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.2.2.2.2.2.1
theorem k0_idx170_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v134] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.2.2.2.2.2.2.1
theorem k0_idx172_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v140] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.2.2.2.2.2.2.2.1
theorem k0_idx174_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v146] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.2.2.2.2.2.2.2.2.1
theorem k0_idx176_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v152] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.2.2.2.2.2.2.2.2.2.1
theorem k0_idx178_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v158] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.2.2.2.2.2.2.2.2.2.2.1
theorem k0_idx180_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v164] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.2.2.2.2.2.2.2.2.2.2.2.1
theorem k0_idx182_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v170] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.2.2.2.2.2.2.2.2.2.2.2.2.1
theorem k0_idx184_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v176] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.2.2.2.2.2.2.2.2.2.2.2.2.2.1
theorem k0_idx186_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v182] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.2.2.2.2.2.2.2.2.2.2.2.2.2.2.1
theorem k0_idx188_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v188] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.2.2.2.2.2.2.2.2.2.2.2.2.2.2.2.1
theorem k0_idx190_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v194] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.2.2.2.2.2.2.2.2.2.2.2.2.2.2.2.2.1
theorem k0_idx192_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v200] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.1.2.2.2.2.2.2.2.2.2.2.2.2.2.2.2.2.2.2.2.2.2.2.2.2.2.2.2.2.2.2.2
theorem k0_idx194_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v206] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.1
theorem k0_idx196_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v212] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.1
theorem k0_idx198_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v218] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.1
theorem k0_idx200_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v224] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.1
theorem k0_idx202_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v230] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.1
theorem k0_idx204_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v236] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.1
theorem k0_idx206_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v242] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.1
theorem k0_idx208_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v248] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.1
theorem k0_idx210_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v254] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.1
theorem k0_idx212_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v260] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.1
theorem k0_idx214_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v266] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.1
theorem k0_idx216_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v272] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.1
theorem k0_idx218_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v278] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.1
theorem k0_idx220_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v284] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.1
theorem k0_idx222_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v290] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.1
theorem k0_idx224_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v296] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.2.1
theorem k0_idx226_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v302] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.2.2.1
theorem k0_idx228_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v308] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.2.2.2.1
theorem k0_idx230_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v314] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.2.2.2.2.1
theorem k0_idx232_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v320] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.2.2.2.2.2.1
theorem k0_idx234_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v326] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.2.2.2.2.2.2.1
theorem k0_idx236_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v332] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.2.2.2.2.2.2.2.1
theorem k0_idx238_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v338] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.2.2.2.2.2.2.2.2.1
theorem k0_idx240_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v344] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.2.2.2.2.2.2.2.2.2.1
theorem k0_idx242_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v350] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.2.2.2.2.2.2.2.2.2.2.1
theorem k0_idx244_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v356] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.2.2.2.2.2.2.2.2.2.2.2.1
theorem k0_idx246_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v362] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.2.2.2.2.2.2.2.2.2.2.2.2.1
theorem k0_idx248_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v368] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.2.2.2.2.2.2.2.2.2.2.2.2.2.1
theorem k0_idx250_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v374] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.2.2.2.2.2.2.2.2.2.2.2.2.2.2.1
theorem k0_idx252_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v380] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.2.2.2.2.2.2.2.2.2.2.2.2.2.2.2.1
theorem k0_idx254_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v386] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.2.2.2.2.2.2.2.2.2.2.2.2.2.2.2.2.1
theorem k0_idx256_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v433 : IVec S16 32) (k0_hw4 : k0_chk4 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433), ∀ a x, ((![v433, v392] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v433 k0_hw4 => k0_hw4.2.2.2.2.2.2.2.2.2.2.2.2.2.2.2.2.2.2.2.2.2.2.2.2.2.2.2.2.2.2.2.2
@[reducible] def k0_t4_loop : Scf.Loop 32 :=
  let c1_i32_206 : BitVec 32 := 1#32
  let c24_i32 : BitVec 32 := 24#32
  let v411 : BitVec 32 := Scalar.addi c1_i32_206 c24_i32
  let c1_i32_207 : BitVec 32 := 1#32
  ⟨c1_i32_206, v411, c1_i32_207⟩
def k0_off6 (i : grid0.Coords) (k0_t4 : Fin k0_t4_loop.trips) (c0_i32_224 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_223 : BitVec 32 := 2#32
  let c1_i32_206 : BitVec 32 := 1#32
  let c1_i32_207 : BitVec 32 := 1#32
  let arg10 : BitVec 32 := Scf.iv c1_i32_206 c1_i32_207 k0_t4
  let v427 : BitVec 32 := Scalar.muli c2_i32_223 arg10
  let v428 : BitVec 32 := Scalar.addi v427 c0_i32_224
  let c2_i32_225 : BitVec 32 := 2#32
  let v429 : BitVec 32 := Scalar.subi v428 c2_i32_225
  let c512_i32_226 : BitVec 32 := 512#32
  let v430 : BitVec 32 := Scalar.muli v429 c512_i32_226
  let v431 : BitVec 32 := Scalar.addi v2 v430
  let c0_i32_230 : BitVec 32 := 0#32
  ![v431.toNat, 0]
@[reducible] def k0_t5_loop : Scf.Loop 32 :=
  let c0_i32_235 : BitVec 32 := 0#32
  let c32_i32_236 : BitVec 32 := 32#32
  let v438 : BitVec 32 := Scalar.addi c0_i32_235 c32_i32_236
  let c1_i32_237 : BitVec 32 := 1#32
  ⟨c0_i32_235, v438, c1_i32_237⟩
def k0_off7 (k0_t4 : Fin k0_t4_loop.trips) (k0_t5 : Fin k0_t5_loop.trips) : Fin 1 → Nat :=
  let c2_i32_223 : BitVec 32 := 2#32
  let c1_i32_206 : BitVec 32 := 1#32
  let c1_i32_207 : BitVec 32 := 1#32
  let arg10 : BitVec 32 := Scf.iv c1_i32_206 c1_i32_207 k0_t4
  let v427 : BitVec 32 := Scalar.muli c2_i32_223 arg10
  let c0_i32_224 : BitVec 32 := 0#32
  let v428 : BitVec 32 := Scalar.addi v427 c0_i32_224
  let c512_i32_272 : BitVec 32 := 512#32
  let v469 : BitVec 32 := Scalar.muli v428 c512_i32_272
  let c0_i32_235 : BitVec 32 := 0#32
  let c1_i32_237 : BitVec 32 := 1#32
  let arg12 : BitVec 32 := Scf.iv c0_i32_235 c1_i32_237 k0_t5
  let c16_i32_273 : BitVec 32 := 16#32
  let v470 : BitVec 32 := Scalar.muli arg12 c16_i32_273
  let v471 : BitVec 32 := Scalar.addi v469 v470
  let v472 : Index := Scalar.indexCast v471
  ![v472.toNat]

def k0_chk5_0 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) : Prop :=
  (∀ a x, ((![v473, v14] : Fin 2 → IVec S16 32) a x).toNat < S208x64.size a) ∧
  (∀ a x, ((![v473, v20] : Fin 2 → IVec S16 32) a x).toNat < S208x64.size a) ∧
  (∀ a x, ((![v473, v26] : Fin 2 → IVec S16 32) a x).toNat < S208x64.size a) ∧
  (∀ a x, ((![v473, v32] : Fin 2 → IVec S16 32) a x).toNat < S208x64.size a) ∧
  (∀ a x, ((![v473, v38] : Fin 2 → IVec S16 32) a x).toNat < S208x64.size a) ∧
  (∀ a x, ((![v473, v44] : Fin 2 → IVec S16 32) a x).toNat < S208x64.size a) ∧
  (∀ a x, ((![v473, v50] : Fin 2 → IVec S16 32) a x).toNat < S208x64.size a) ∧
  (∀ a x, ((![v473, v56] : Fin 2 → IVec S16 32) a x).toNat < S208x64.size a) ∧
  (∀ a x, ((![v473, v62] : Fin 2 → IVec S16 32) a x).toNat < S208x64.size a) ∧
  (∀ a x, ((![v473, v68] : Fin 2 → IVec S16 32) a x).toNat < S208x64.size a) ∧
  (∀ a x, ((![v473, v74] : Fin 2 → IVec S16 32) a x).toNat < S208x64.size a) ∧
  (∀ a x, ((![v473, v80] : Fin 2 → IVec S16 32) a x).toNat < S208x64.size a) ∧
  (∀ a x, ((![v473, v86] : Fin 2 → IVec S16 32) a x).toNat < S208x64.size a) ∧
  (∀ a x, ((![v473, v92] : Fin 2 → IVec S16 32) a x).toNat < S208x64.size a) ∧
  (∀ a x, ((![v473, v98] : Fin 2 → IVec S16 32) a x).toNat < S208x64.size a) ∧
  (∀ a x, ((![v473, v104] : Fin 2 → IVec S16 32) a x).toNat < S208x64.size a) ∧
  (∀ a x, ((![v473, v110] : Fin 2 → IVec S16 32) a x).toNat < S208x64.size a) ∧
  (∀ a x, ((![v473, v116] : Fin 2 → IVec S16 32) a x).toNat < S208x64.size a) ∧
  (∀ a x, ((![v473, v122] : Fin 2 → IVec S16 32) a x).toNat < S208x64.size a) ∧
  (∀ a x, ((![v473, v128] : Fin 2 → IVec S16 32) a x).toNat < S208x64.size a) ∧
  (∀ a x, ((![v473, v134] : Fin 2 → IVec S16 32) a x).toNat < S208x64.size a) ∧
  (∀ a x, ((![v473, v140] : Fin 2 → IVec S16 32) a x).toNat < S208x64.size a) ∧
  (∀ a x, ((![v473, v146] : Fin 2 → IVec S16 32) a x).toNat < S208x64.size a) ∧
  (∀ a x, ((![v473, v152] : Fin 2 → IVec S16 32) a x).toNat < S208x64.size a) ∧
  (∀ a x, ((![v473, v158] : Fin 2 → IVec S16 32) a x).toNat < S208x64.size a) ∧
  (∀ a x, ((![v473, v164] : Fin 2 → IVec S16 32) a x).toNat < S208x64.size a) ∧
  (∀ a x, ((![v473, v170] : Fin 2 → IVec S16 32) a x).toNat < S208x64.size a) ∧
  (∀ a x, ((![v473, v176] : Fin 2 → IVec S16 32) a x).toNat < S208x64.size a) ∧
  (∀ a x, ((![v473, v182] : Fin 2 → IVec S16 32) a x).toNat < S208x64.size a) ∧
  (∀ a x, ((![v473, v188] : Fin 2 → IVec S16 32) a x).toNat < S208x64.size a) ∧
  (∀ a x, ((![v473, v194] : Fin 2 → IVec S16 32) a x).toNat < S208x64.size a) ∧
  (∀ a x, ((![v473, v200] : Fin 2 → IVec S16 32) a x).toNat < S208x64.size a)
def k0_chk5_1 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) : Prop :=
  (∀ a x, ((![v473, v206] : Fin 2 → IVec S16 32) a x).toNat < S208x64.size a) ∧
  (∀ a x, ((![v473, v212] : Fin 2 → IVec S16 32) a x).toNat < S208x64.size a) ∧
  (∀ a x, ((![v473, v218] : Fin 2 → IVec S16 32) a x).toNat < S208x64.size a) ∧
  (∀ a x, ((![v473, v224] : Fin 2 → IVec S16 32) a x).toNat < S208x64.size a) ∧
  (∀ a x, ((![v473, v230] : Fin 2 → IVec S16 32) a x).toNat < S208x64.size a) ∧
  (∀ a x, ((![v473, v236] : Fin 2 → IVec S16 32) a x).toNat < S208x64.size a) ∧
  (∀ a x, ((![v473, v242] : Fin 2 → IVec S16 32) a x).toNat < S208x64.size a) ∧
  (∀ a x, ((![v473, v248] : Fin 2 → IVec S16 32) a x).toNat < S208x64.size a) ∧
  (∀ a x, ((![v473, v254] : Fin 2 → IVec S16 32) a x).toNat < S208x64.size a) ∧
  (∀ a x, ((![v473, v260] : Fin 2 → IVec S16 32) a x).toNat < S208x64.size a) ∧
  (∀ a x, ((![v473, v266] : Fin 2 → IVec S16 32) a x).toNat < S208x64.size a) ∧
  (∀ a x, ((![v473, v272] : Fin 2 → IVec S16 32) a x).toNat < S208x64.size a) ∧
  (∀ a x, ((![v473, v278] : Fin 2 → IVec S16 32) a x).toNat < S208x64.size a) ∧
  (∀ a x, ((![v473, v284] : Fin 2 → IVec S16 32) a x).toNat < S208x64.size a) ∧
  (∀ a x, ((![v473, v290] : Fin 2 → IVec S16 32) a x).toNat < S208x64.size a) ∧
  (∀ a x, ((![v473, v296] : Fin 2 → IVec S16 32) a x).toNat < S208x64.size a) ∧
  (∀ a x, ((![v473, v302] : Fin 2 → IVec S16 32) a x).toNat < S208x64.size a) ∧
  (∀ a x, ((![v473, v308] : Fin 2 → IVec S16 32) a x).toNat < S208x64.size a) ∧
  (∀ a x, ((![v473, v314] : Fin 2 → IVec S16 32) a x).toNat < S208x64.size a) ∧
  (∀ a x, ((![v473, v320] : Fin 2 → IVec S16 32) a x).toNat < S208x64.size a) ∧
  (∀ a x, ((![v473, v326] : Fin 2 → IVec S16 32) a x).toNat < S208x64.size a) ∧
  (∀ a x, ((![v473, v332] : Fin 2 → IVec S16 32) a x).toNat < S208x64.size a) ∧
  (∀ a x, ((![v473, v338] : Fin 2 → IVec S16 32) a x).toNat < S208x64.size a) ∧
  (∀ a x, ((![v473, v344] : Fin 2 → IVec S16 32) a x).toNat < S208x64.size a) ∧
  (∀ a x, ((![v473, v350] : Fin 2 → IVec S16 32) a x).toNat < S208x64.size a) ∧
  (∀ a x, ((![v473, v356] : Fin 2 → IVec S16 32) a x).toNat < S208x64.size a) ∧
  (∀ a x, ((![v473, v362] : Fin 2 → IVec S16 32) a x).toNat < S208x64.size a) ∧
  (∀ a x, ((![v473, v368] : Fin 2 → IVec S16 32) a x).toNat < S208x64.size a) ∧
  (∀ a x, ((![v473, v374] : Fin 2 → IVec S16 32) a x).toNat < S208x64.size a) ∧
  (∀ a x, ((![v473, v380] : Fin 2 → IVec S16 32) a x).toNat < S208x64.size a) ∧
  (∀ a x, ((![v473, v386] : Fin 2 → IVec S16 32) a x).toNat < S208x64.size a) ∧
  (∀ a x, ((![v473, v392] : Fin 2 → IVec S16 32) a x).toNat < S208x64.size a)
def k0_chk5 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) : Prop :=
  k0_chk5_0 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 ∧
  k0_chk5_1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473
theorem k0_idx257_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v14] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.1
theorem k0_idx259_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v20] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.1
theorem k0_idx261_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v26] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.1
theorem k0_idx263_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v32] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.1
theorem k0_idx265_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v38] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.1
theorem k0_idx267_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v44] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.1
theorem k0_idx269_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v50] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.1
theorem k0_idx271_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v56] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.1
theorem k0_idx273_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v62] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.1
theorem k0_idx275_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v68] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.1
theorem k0_idx277_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v74] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.1
theorem k0_idx279_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v80] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.1
theorem k0_idx281_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v86] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.1
theorem k0_idx283_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v92] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.1
theorem k0_idx285_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v98] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.1
theorem k0_idx287_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v104] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.2.1
theorem k0_idx289_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v110] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.2.2.1
theorem k0_idx291_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v116] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.2.2.2.1
theorem k0_idx293_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v122] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.2.2.2.2.1
theorem k0_idx295_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v128] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.2.2.2.2.2.1
theorem k0_idx297_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v134] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.2.2.2.2.2.2.1
theorem k0_idx299_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v140] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.2.2.2.2.2.2.2.1
theorem k0_idx301_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v146] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.2.2.2.2.2.2.2.2.1
theorem k0_idx303_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v152] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.2.2.2.2.2.2.2.2.2.1
theorem k0_idx305_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v158] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.2.2.2.2.2.2.2.2.2.2.1
theorem k0_idx307_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v164] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.2.2.2.2.2.2.2.2.2.2.2.1
theorem k0_idx309_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v170] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.2.2.2.2.2.2.2.2.2.2.2.2.1
theorem k0_idx311_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v176] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.2.2.2.2.2.2.2.2.2.2.2.2.2.1
theorem k0_idx313_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v182] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.2.2.2.2.2.2.2.2.2.2.2.2.2.2.1
theorem k0_idx315_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v188] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.2.2.2.2.2.2.2.2.2.2.2.2.2.2.2.1
theorem k0_idx317_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v194] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.2.2.2.2.2.2.2.2.2.2.2.2.2.2.2.2.1
theorem k0_idx319_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v200] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.1.2.2.2.2.2.2.2.2.2.2.2.2.2.2.2.2.2.2.2.2.2.2.2.2.2.2.2.2.2.2.2
theorem k0_idx321_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v206] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.1
theorem k0_idx323_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v212] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.1
theorem k0_idx325_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v218] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.1
theorem k0_idx327_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v224] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.1
theorem k0_idx329_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v230] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.1
theorem k0_idx331_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v236] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.1
theorem k0_idx333_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v242] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.1
theorem k0_idx335_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v248] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.1
theorem k0_idx337_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v254] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.1
theorem k0_idx339_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v260] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.1
theorem k0_idx341_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v266] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.1
theorem k0_idx343_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v272] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.1
theorem k0_idx345_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v278] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.1
theorem k0_idx347_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v284] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.1
theorem k0_idx349_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v290] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.1
theorem k0_idx351_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v296] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.2.1
theorem k0_idx353_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v302] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.2.2.1
theorem k0_idx355_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v308] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.2.2.2.1
theorem k0_idx357_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v314] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.2.2.2.2.1
theorem k0_idx359_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v320] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.2.2.2.2.2.1
theorem k0_idx361_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v326] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.2.2.2.2.2.2.1
theorem k0_idx363_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v332] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.2.2.2.2.2.2.2.1
theorem k0_idx365_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v338] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.2.2.2.2.2.2.2.2.1
theorem k0_idx367_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v344] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.2.2.2.2.2.2.2.2.2.1
theorem k0_idx369_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v350] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.2.2.2.2.2.2.2.2.2.2.1
theorem k0_idx371_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v356] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.2.2.2.2.2.2.2.2.2.2.2.1
theorem k0_idx373_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v362] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.2.2.2.2.2.2.2.2.2.2.2.2.1
theorem k0_idx375_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v368] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.2.2.2.2.2.2.2.2.2.2.2.2.2.1
theorem k0_idx377_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v374] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.2.2.2.2.2.2.2.2.2.2.2.2.2.2.1
theorem k0_idx379_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v380] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.2.2.2.2.2.2.2.2.2.2.2.2.2.2.2.1
theorem k0_idx381_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v386] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.2.2.2.2.2.2.2.2.2.2.2.2.2.2.2.2.1
theorem k0_idx383_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw5 : k0_chk5 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v392] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw5 => k0_hw5.2.2.2.2.2.2.2.2.2.2.2.2.2.2.2.2.2.2.2.2.2.2.2.2.2.2.2.2.2.2.2.2

def k0_chk6_0 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) : Prop :=
  (∀ a x, ((![v476, v14] : Fin 2 → IVec S16 32) a x).toNat < S512x64.size a) ∧
  (∀ a x, ((![v476, v20] : Fin 2 → IVec S16 32) a x).toNat < S512x64.size a) ∧
  (∀ a x, ((![v476, v26] : Fin 2 → IVec S16 32) a x).toNat < S512x64.size a) ∧
  (∀ a x, ((![v476, v32] : Fin 2 → IVec S16 32) a x).toNat < S512x64.size a) ∧
  (∀ a x, ((![v476, v38] : Fin 2 → IVec S16 32) a x).toNat < S512x64.size a) ∧
  (∀ a x, ((![v476, v44] : Fin 2 → IVec S16 32) a x).toNat < S512x64.size a) ∧
  (∀ a x, ((![v476, v50] : Fin 2 → IVec S16 32) a x).toNat < S512x64.size a) ∧
  (∀ a x, ((![v476, v56] : Fin 2 → IVec S16 32) a x).toNat < S512x64.size a) ∧
  (∀ a x, ((![v476, v62] : Fin 2 → IVec S16 32) a x).toNat < S512x64.size a) ∧
  (∀ a x, ((![v476, v68] : Fin 2 → IVec S16 32) a x).toNat < S512x64.size a) ∧
  (∀ a x, ((![v476, v74] : Fin 2 → IVec S16 32) a x).toNat < S512x64.size a) ∧
  (∀ a x, ((![v476, v80] : Fin 2 → IVec S16 32) a x).toNat < S512x64.size a) ∧
  (∀ a x, ((![v476, v86] : Fin 2 → IVec S16 32) a x).toNat < S512x64.size a) ∧
  (∀ a x, ((![v476, v92] : Fin 2 → IVec S16 32) a x).toNat < S512x64.size a) ∧
  (∀ a x, ((![v476, v98] : Fin 2 → IVec S16 32) a x).toNat < S512x64.size a) ∧
  (∀ a x, ((![v476, v104] : Fin 2 → IVec S16 32) a x).toNat < S512x64.size a) ∧
  (∀ a x, ((![v476, v110] : Fin 2 → IVec S16 32) a x).toNat < S512x64.size a) ∧
  (∀ a x, ((![v476, v116] : Fin 2 → IVec S16 32) a x).toNat < S512x64.size a) ∧
  (∀ a x, ((![v476, v122] : Fin 2 → IVec S16 32) a x).toNat < S512x64.size a) ∧
  (∀ a x, ((![v476, v128] : Fin 2 → IVec S16 32) a x).toNat < S512x64.size a) ∧
  (∀ a x, ((![v476, v134] : Fin 2 → IVec S16 32) a x).toNat < S512x64.size a) ∧
  (∀ a x, ((![v476, v140] : Fin 2 → IVec S16 32) a x).toNat < S512x64.size a) ∧
  (∀ a x, ((![v476, v146] : Fin 2 → IVec S16 32) a x).toNat < S512x64.size a) ∧
  (∀ a x, ((![v476, v152] : Fin 2 → IVec S16 32) a x).toNat < S512x64.size a) ∧
  (∀ a x, ((![v476, v158] : Fin 2 → IVec S16 32) a x).toNat < S512x64.size a) ∧
  (∀ a x, ((![v476, v164] : Fin 2 → IVec S16 32) a x).toNat < S512x64.size a) ∧
  (∀ a x, ((![v476, v170] : Fin 2 → IVec S16 32) a x).toNat < S512x64.size a) ∧
  (∀ a x, ((![v476, v176] : Fin 2 → IVec S16 32) a x).toNat < S512x64.size a) ∧
  (∀ a x, ((![v476, v182] : Fin 2 → IVec S16 32) a x).toNat < S512x64.size a) ∧
  (∀ a x, ((![v476, v188] : Fin 2 → IVec S16 32) a x).toNat < S512x64.size a) ∧
  (∀ a x, ((![v476, v194] : Fin 2 → IVec S16 32) a x).toNat < S512x64.size a) ∧
  (∀ a x, ((![v476, v200] : Fin 2 → IVec S16 32) a x).toNat < S512x64.size a)
def k0_chk6_1 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) : Prop :=
  (∀ a x, ((![v476, v206] : Fin 2 → IVec S16 32) a x).toNat < S512x64.size a) ∧
  (∀ a x, ((![v476, v212] : Fin 2 → IVec S16 32) a x).toNat < S512x64.size a) ∧
  (∀ a x, ((![v476, v218] : Fin 2 → IVec S16 32) a x).toNat < S512x64.size a) ∧
  (∀ a x, ((![v476, v224] : Fin 2 → IVec S16 32) a x).toNat < S512x64.size a) ∧
  (∀ a x, ((![v476, v230] : Fin 2 → IVec S16 32) a x).toNat < S512x64.size a) ∧
  (∀ a x, ((![v476, v236] : Fin 2 → IVec S16 32) a x).toNat < S512x64.size a) ∧
  (∀ a x, ((![v476, v242] : Fin 2 → IVec S16 32) a x).toNat < S512x64.size a) ∧
  (∀ a x, ((![v476, v248] : Fin 2 → IVec S16 32) a x).toNat < S512x64.size a) ∧
  (∀ a x, ((![v476, v254] : Fin 2 → IVec S16 32) a x).toNat < S512x64.size a) ∧
  (∀ a x, ((![v476, v260] : Fin 2 → IVec S16 32) a x).toNat < S512x64.size a) ∧
  (∀ a x, ((![v476, v266] : Fin 2 → IVec S16 32) a x).toNat < S512x64.size a) ∧
  (∀ a x, ((![v476, v272] : Fin 2 → IVec S16 32) a x).toNat < S512x64.size a) ∧
  (∀ a x, ((![v476, v278] : Fin 2 → IVec S16 32) a x).toNat < S512x64.size a) ∧
  (∀ a x, ((![v476, v284] : Fin 2 → IVec S16 32) a x).toNat < S512x64.size a) ∧
  (∀ a x, ((![v476, v290] : Fin 2 → IVec S16 32) a x).toNat < S512x64.size a) ∧
  (∀ a x, ((![v476, v296] : Fin 2 → IVec S16 32) a x).toNat < S512x64.size a) ∧
  (∀ a x, ((![v476, v302] : Fin 2 → IVec S16 32) a x).toNat < S512x64.size a) ∧
  (∀ a x, ((![v476, v308] : Fin 2 → IVec S16 32) a x).toNat < S512x64.size a) ∧
  (∀ a x, ((![v476, v314] : Fin 2 → IVec S16 32) a x).toNat < S512x64.size a) ∧
  (∀ a x, ((![v476, v320] : Fin 2 → IVec S16 32) a x).toNat < S512x64.size a) ∧
  (∀ a x, ((![v476, v326] : Fin 2 → IVec S16 32) a x).toNat < S512x64.size a) ∧
  (∀ a x, ((![v476, v332] : Fin 2 → IVec S16 32) a x).toNat < S512x64.size a) ∧
  (∀ a x, ((![v476, v338] : Fin 2 → IVec S16 32) a x).toNat < S512x64.size a) ∧
  (∀ a x, ((![v476, v344] : Fin 2 → IVec S16 32) a x).toNat < S512x64.size a) ∧
  (∀ a x, ((![v476, v350] : Fin 2 → IVec S16 32) a x).toNat < S512x64.size a) ∧
  (∀ a x, ((![v476, v356] : Fin 2 → IVec S16 32) a x).toNat < S512x64.size a) ∧
  (∀ a x, ((![v476, v362] : Fin 2 → IVec S16 32) a x).toNat < S512x64.size a) ∧
  (∀ a x, ((![v476, v368] : Fin 2 → IVec S16 32) a x).toNat < S512x64.size a) ∧
  (∀ a x, ((![v476, v374] : Fin 2 → IVec S16 32) a x).toNat < S512x64.size a) ∧
  (∀ a x, ((![v476, v380] : Fin 2 → IVec S16 32) a x).toNat < S512x64.size a) ∧
  (∀ a x, ((![v476, v386] : Fin 2 → IVec S16 32) a x).toNat < S512x64.size a) ∧
  (∀ a x, ((![v476, v392] : Fin 2 → IVec S16 32) a x).toNat < S512x64.size a)
def k0_chk6 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) : Prop :=
  k0_chk6_0 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 ∧
  k0_chk6_1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476
theorem k0_idx258_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v14] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.1
theorem k0_idx260_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v20] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.1
theorem k0_idx262_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v26] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.1
theorem k0_idx264_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v32] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.1
theorem k0_idx266_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v38] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.1
theorem k0_idx268_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v44] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.1
theorem k0_idx270_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v50] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.1
theorem k0_idx272_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v56] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.1
theorem k0_idx274_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v62] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.1
theorem k0_idx276_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v68] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.1
theorem k0_idx278_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v74] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.1
theorem k0_idx280_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v80] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.1
theorem k0_idx282_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v86] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.1
theorem k0_idx284_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v92] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.1
theorem k0_idx286_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v98] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.1
theorem k0_idx288_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v104] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.2.1
theorem k0_idx290_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v110] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.2.2.1
theorem k0_idx292_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v116] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.2.2.2.1
theorem k0_idx294_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v122] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.2.2.2.2.1
theorem k0_idx296_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v128] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.2.2.2.2.2.1
theorem k0_idx298_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v134] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.2.2.2.2.2.2.1
theorem k0_idx300_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v140] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.2.2.2.2.2.2.2.1
theorem k0_idx302_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v146] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.2.2.2.2.2.2.2.2.1
theorem k0_idx304_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v152] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.2.2.2.2.2.2.2.2.2.1
theorem k0_idx306_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v158] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.2.2.2.2.2.2.2.2.2.2.1
theorem k0_idx308_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v164] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.2.2.2.2.2.2.2.2.2.2.2.1
theorem k0_idx310_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v170] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.2.2.2.2.2.2.2.2.2.2.2.2.1
theorem k0_idx312_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v176] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.2.2.2.2.2.2.2.2.2.2.2.2.2.1
theorem k0_idx314_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v182] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.2.2.2.2.2.2.2.2.2.2.2.2.2.2.1
theorem k0_idx316_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v188] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.2.2.2.2.2.2.2.2.2.2.2.2.2.2.2.1
theorem k0_idx318_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v194] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.2.2.2.2.2.2.2.2.2.2.2.2.2.2.2.2.1
theorem k0_idx320_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v200] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.1.2.2.2.2.2.2.2.2.2.2.2.2.2.2.2.2.2.2.2.2.2.2.2.2.2.2.2.2.2.2.2
theorem k0_idx322_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v206] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.1
theorem k0_idx324_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v212] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.1
theorem k0_idx326_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v218] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.1
theorem k0_idx328_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v224] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.1
theorem k0_idx330_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v230] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.1
theorem k0_idx332_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v236] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.1
theorem k0_idx334_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v242] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.1
theorem k0_idx336_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v248] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.1
theorem k0_idx338_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v254] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.1
theorem k0_idx340_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v260] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.1
theorem k0_idx342_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v266] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.1
theorem k0_idx344_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v272] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.1
theorem k0_idx346_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v278] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.1
theorem k0_idx348_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v284] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.1
theorem k0_idx350_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v290] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.1
theorem k0_idx352_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v296] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.2.1
theorem k0_idx354_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v302] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.2.2.1
theorem k0_idx356_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v308] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.2.2.2.1
theorem k0_idx358_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v314] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.2.2.2.2.1
theorem k0_idx360_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v320] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.2.2.2.2.2.1
theorem k0_idx362_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v326] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.2.2.2.2.2.2.1
theorem k0_idx364_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v332] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.2.2.2.2.2.2.2.1
theorem k0_idx366_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v338] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.2.2.2.2.2.2.2.2.1
theorem k0_idx368_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v344] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.2.2.2.2.2.2.2.2.2.1
theorem k0_idx370_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v350] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.2.2.2.2.2.2.2.2.2.2.1
theorem k0_idx372_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v356] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.2.2.2.2.2.2.2.2.2.2.2.1
theorem k0_idx374_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v362] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.2.2.2.2.2.2.2.2.2.2.2.2.1
theorem k0_idx376_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v368] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.2.2.2.2.2.2.2.2.2.2.2.2.2.1
theorem k0_idx378_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v374] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.2.2.2.2.2.2.2.2.2.2.2.2.2.2.1
theorem k0_idx380_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v380] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.2.2.2.2.2.2.2.2.2.2.2.2.2.2.2.1
theorem k0_idx382_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v386] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.2.2.2.2.2.2.2.2.2.2.2.2.2.2.2.2.1
theorem k0_idx384_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw6 : k0_chk6 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v392] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw6 => k0_hw6.2.2.2.2.2.2.2.2.2.2.2.2.2.2.2.2.2.2.2.2.2.2.2.2.2.2.2.2.2.2.2.2
def k0_off8 (i : grid0.Coords) (k0_t4 : Fin k0_t4_loop.trips) (c0_i32_224 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_223 : BitVec 32 := 2#32
  let c1_i32_206 : BitVec 32 := 1#32
  let c1_i32_207 : BitVec 32 := 1#32
  let arg10 : BitVec 32 := Scf.iv c1_i32_206 c1_i32_207 k0_t4
  let v427 : BitVec 32 := Scalar.muli c2_i32_223 arg10
  let v428 : BitVec 32 := Scalar.addi v427 c0_i32_224
  let c512_i32_239 : BitVec 32 := 512#32
  let v440 : BitVec 32 := Scalar.muli v428 c512_i32_239
  let v441 : BitVec 32 := Scalar.addi v2 v440
  let c0_i32_243 : BitVec 32 := 0#32
  ![v441.toNat, 0]
@[reducible] def k0_t6_loop : Scf.Loop 32 :=
  let c0_i32_259 : BitVec 32 := 0#32
  let c32_i32_260 : BitVec 32 := 32#32
  let v459 : BitVec 32 := Scalar.addi c0_i32_259 c32_i32_260
  let c1_i32_261 : BitVec 32 := 1#32
  ⟨c0_i32_259, v459, c1_i32_261⟩
def k0_off9 (k0_t4 : Fin k0_t4_loop.trips) (k0_t6 : Fin k0_t6_loop.trips) : Fin 1 → Nat :=
  let c2_i32_247 : BitVec 32 := 2#32
  let c1_i32_206 : BitVec 32 := 1#32
  let c1_i32_207 : BitVec 32 := 1#32
  let arg10 : BitVec 32 := Scf.iv c1_i32_206 c1_i32_207 k0_t4
  let v448 : BitVec 32 := Scalar.muli c2_i32_247 arg10
  let c1_i32_248 : BitVec 32 := 1#32
  let v449 : BitVec 32 := Scalar.addi v448 c1_i32_248
  let c512_i32_272 : BitVec 32 := 512#32
  let v469 : BitVec 32 := Scalar.muli v449 c512_i32_272
  let c0_i32_259 : BitVec 32 := 0#32
  let c1_i32_261 : BitVec 32 := 1#32
  let arg12 : BitVec 32 := Scf.iv c0_i32_259 c1_i32_261 k0_t6
  let c16_i32_273 : BitVec 32 := 16#32
  let v470 : BitVec 32 := Scalar.muli arg12 c16_i32_273
  let v471 : BitVec 32 := Scalar.addi v469 v470
  let v472 : Index := Scalar.indexCast v471
  ![v472.toNat]

def k0_chk7_0 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) : Prop :=
  (∀ a x, ((![v473, v14] : Fin 2 → IVec S16 32) a x).toNat < S208x64.size a) ∧
  (∀ a x, ((![v473, v20] : Fin 2 → IVec S16 32) a x).toNat < S208x64.size a) ∧
  (∀ a x, ((![v473, v26] : Fin 2 → IVec S16 32) a x).toNat < S208x64.size a) ∧
  (∀ a x, ((![v473, v32] : Fin 2 → IVec S16 32) a x).toNat < S208x64.size a) ∧
  (∀ a x, ((![v473, v38] : Fin 2 → IVec S16 32) a x).toNat < S208x64.size a) ∧
  (∀ a x, ((![v473, v44] : Fin 2 → IVec S16 32) a x).toNat < S208x64.size a) ∧
  (∀ a x, ((![v473, v50] : Fin 2 → IVec S16 32) a x).toNat < S208x64.size a) ∧
  (∀ a x, ((![v473, v56] : Fin 2 → IVec S16 32) a x).toNat < S208x64.size a) ∧
  (∀ a x, ((![v473, v62] : Fin 2 → IVec S16 32) a x).toNat < S208x64.size a) ∧
  (∀ a x, ((![v473, v68] : Fin 2 → IVec S16 32) a x).toNat < S208x64.size a) ∧
  (∀ a x, ((![v473, v74] : Fin 2 → IVec S16 32) a x).toNat < S208x64.size a) ∧
  (∀ a x, ((![v473, v80] : Fin 2 → IVec S16 32) a x).toNat < S208x64.size a) ∧
  (∀ a x, ((![v473, v86] : Fin 2 → IVec S16 32) a x).toNat < S208x64.size a) ∧
  (∀ a x, ((![v473, v92] : Fin 2 → IVec S16 32) a x).toNat < S208x64.size a) ∧
  (∀ a x, ((![v473, v98] : Fin 2 → IVec S16 32) a x).toNat < S208x64.size a) ∧
  (∀ a x, ((![v473, v104] : Fin 2 → IVec S16 32) a x).toNat < S208x64.size a) ∧
  (∀ a x, ((![v473, v110] : Fin 2 → IVec S16 32) a x).toNat < S208x64.size a) ∧
  (∀ a x, ((![v473, v116] : Fin 2 → IVec S16 32) a x).toNat < S208x64.size a) ∧
  (∀ a x, ((![v473, v122] : Fin 2 → IVec S16 32) a x).toNat < S208x64.size a) ∧
  (∀ a x, ((![v473, v128] : Fin 2 → IVec S16 32) a x).toNat < S208x64.size a) ∧
  (∀ a x, ((![v473, v134] : Fin 2 → IVec S16 32) a x).toNat < S208x64.size a) ∧
  (∀ a x, ((![v473, v140] : Fin 2 → IVec S16 32) a x).toNat < S208x64.size a) ∧
  (∀ a x, ((![v473, v146] : Fin 2 → IVec S16 32) a x).toNat < S208x64.size a) ∧
  (∀ a x, ((![v473, v152] : Fin 2 → IVec S16 32) a x).toNat < S208x64.size a) ∧
  (∀ a x, ((![v473, v158] : Fin 2 → IVec S16 32) a x).toNat < S208x64.size a) ∧
  (∀ a x, ((![v473, v164] : Fin 2 → IVec S16 32) a x).toNat < S208x64.size a) ∧
  (∀ a x, ((![v473, v170] : Fin 2 → IVec S16 32) a x).toNat < S208x64.size a) ∧
  (∀ a x, ((![v473, v176] : Fin 2 → IVec S16 32) a x).toNat < S208x64.size a) ∧
  (∀ a x, ((![v473, v182] : Fin 2 → IVec S16 32) a x).toNat < S208x64.size a) ∧
  (∀ a x, ((![v473, v188] : Fin 2 → IVec S16 32) a x).toNat < S208x64.size a) ∧
  (∀ a x, ((![v473, v194] : Fin 2 → IVec S16 32) a x).toNat < S208x64.size a) ∧
  (∀ a x, ((![v473, v200] : Fin 2 → IVec S16 32) a x).toNat < S208x64.size a)
def k0_chk7_1 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) : Prop :=
  (∀ a x, ((![v473, v206] : Fin 2 → IVec S16 32) a x).toNat < S208x64.size a) ∧
  (∀ a x, ((![v473, v212] : Fin 2 → IVec S16 32) a x).toNat < S208x64.size a) ∧
  (∀ a x, ((![v473, v218] : Fin 2 → IVec S16 32) a x).toNat < S208x64.size a) ∧
  (∀ a x, ((![v473, v224] : Fin 2 → IVec S16 32) a x).toNat < S208x64.size a) ∧
  (∀ a x, ((![v473, v230] : Fin 2 → IVec S16 32) a x).toNat < S208x64.size a) ∧
  (∀ a x, ((![v473, v236] : Fin 2 → IVec S16 32) a x).toNat < S208x64.size a) ∧
  (∀ a x, ((![v473, v242] : Fin 2 → IVec S16 32) a x).toNat < S208x64.size a) ∧
  (∀ a x, ((![v473, v248] : Fin 2 → IVec S16 32) a x).toNat < S208x64.size a) ∧
  (∀ a x, ((![v473, v254] : Fin 2 → IVec S16 32) a x).toNat < S208x64.size a) ∧
  (∀ a x, ((![v473, v260] : Fin 2 → IVec S16 32) a x).toNat < S208x64.size a) ∧
  (∀ a x, ((![v473, v266] : Fin 2 → IVec S16 32) a x).toNat < S208x64.size a) ∧
  (∀ a x, ((![v473, v272] : Fin 2 → IVec S16 32) a x).toNat < S208x64.size a) ∧
  (∀ a x, ((![v473, v278] : Fin 2 → IVec S16 32) a x).toNat < S208x64.size a) ∧
  (∀ a x, ((![v473, v284] : Fin 2 → IVec S16 32) a x).toNat < S208x64.size a) ∧
  (∀ a x, ((![v473, v290] : Fin 2 → IVec S16 32) a x).toNat < S208x64.size a) ∧
  (∀ a x, ((![v473, v296] : Fin 2 → IVec S16 32) a x).toNat < S208x64.size a) ∧
  (∀ a x, ((![v473, v302] : Fin 2 → IVec S16 32) a x).toNat < S208x64.size a) ∧
  (∀ a x, ((![v473, v308] : Fin 2 → IVec S16 32) a x).toNat < S208x64.size a) ∧
  (∀ a x, ((![v473, v314] : Fin 2 → IVec S16 32) a x).toNat < S208x64.size a) ∧
  (∀ a x, ((![v473, v320] : Fin 2 → IVec S16 32) a x).toNat < S208x64.size a) ∧
  (∀ a x, ((![v473, v326] : Fin 2 → IVec S16 32) a x).toNat < S208x64.size a) ∧
  (∀ a x, ((![v473, v332] : Fin 2 → IVec S16 32) a x).toNat < S208x64.size a) ∧
  (∀ a x, ((![v473, v338] : Fin 2 → IVec S16 32) a x).toNat < S208x64.size a) ∧
  (∀ a x, ((![v473, v344] : Fin 2 → IVec S16 32) a x).toNat < S208x64.size a) ∧
  (∀ a x, ((![v473, v350] : Fin 2 → IVec S16 32) a x).toNat < S208x64.size a) ∧
  (∀ a x, ((![v473, v356] : Fin 2 → IVec S16 32) a x).toNat < S208x64.size a) ∧
  (∀ a x, ((![v473, v362] : Fin 2 → IVec S16 32) a x).toNat < S208x64.size a) ∧
  (∀ a x, ((![v473, v368] : Fin 2 → IVec S16 32) a x).toNat < S208x64.size a) ∧
  (∀ a x, ((![v473, v374] : Fin 2 → IVec S16 32) a x).toNat < S208x64.size a) ∧
  (∀ a x, ((![v473, v380] : Fin 2 → IVec S16 32) a x).toNat < S208x64.size a) ∧
  (∀ a x, ((![v473, v386] : Fin 2 → IVec S16 32) a x).toNat < S208x64.size a) ∧
  (∀ a x, ((![v473, v392] : Fin 2 → IVec S16 32) a x).toNat < S208x64.size a)
def k0_chk7 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) : Prop :=
  k0_chk7_0 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 ∧
  k0_chk7_1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473
theorem k0_idx385_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v14] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.1
theorem k0_idx387_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v20] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.1
theorem k0_idx389_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v26] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.1
theorem k0_idx391_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v32] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.1
theorem k0_idx393_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v38] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.1
theorem k0_idx395_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v44] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.1
theorem k0_idx397_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v50] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.1
theorem k0_idx399_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v56] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.1
theorem k0_idx401_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v62] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.1
theorem k0_idx403_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v68] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.1
theorem k0_idx405_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v74] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.1
theorem k0_idx407_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v80] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.1
theorem k0_idx409_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v86] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.1
theorem k0_idx411_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v92] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.1
theorem k0_idx413_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v98] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.1
theorem k0_idx415_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v104] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.2.1
theorem k0_idx417_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v110] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.2.2.1
theorem k0_idx419_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v116] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.2.2.2.1
theorem k0_idx421_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v122] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.2.2.2.2.1
theorem k0_idx423_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v128] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.2.2.2.2.2.1
theorem k0_idx425_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v134] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.2.2.2.2.2.2.1
theorem k0_idx427_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v140] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.2.2.2.2.2.2.2.1
theorem k0_idx429_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v146] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.2.2.2.2.2.2.2.2.1
theorem k0_idx431_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v152] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.2.2.2.2.2.2.2.2.2.1
theorem k0_idx433_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v158] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.2.2.2.2.2.2.2.2.2.2.1
theorem k0_idx435_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v164] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.2.2.2.2.2.2.2.2.2.2.2.1
theorem k0_idx437_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v170] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.2.2.2.2.2.2.2.2.2.2.2.2.1
theorem k0_idx439_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v176] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.2.2.2.2.2.2.2.2.2.2.2.2.2.1
theorem k0_idx441_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v182] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.2.2.2.2.2.2.2.2.2.2.2.2.2.2.1
theorem k0_idx443_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v188] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.2.2.2.2.2.2.2.2.2.2.2.2.2.2.2.1
theorem k0_idx445_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v194] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.2.2.2.2.2.2.2.2.2.2.2.2.2.2.2.2.1
theorem k0_idx447_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v200] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.1.2.2.2.2.2.2.2.2.2.2.2.2.2.2.2.2.2.2.2.2.2.2.2.2.2.2.2.2.2.2.2
theorem k0_idx449_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v206] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.1
theorem k0_idx451_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v212] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.1
theorem k0_idx453_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v218] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.1
theorem k0_idx455_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v224] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.1
theorem k0_idx457_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v230] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.1
theorem k0_idx459_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v236] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.1
theorem k0_idx461_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v242] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.1
theorem k0_idx463_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v248] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.1
theorem k0_idx465_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v254] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.1
theorem k0_idx467_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v260] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.1
theorem k0_idx469_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v266] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.1
theorem k0_idx471_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v272] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.1
theorem k0_idx473_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v278] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.1
theorem k0_idx475_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v284] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.1
theorem k0_idx477_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v290] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.1
theorem k0_idx479_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v296] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.2.1
theorem k0_idx481_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v302] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.2.2.1
theorem k0_idx483_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v308] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.2.2.2.1
theorem k0_idx485_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v314] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.2.2.2.2.1
theorem k0_idx487_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v320] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.2.2.2.2.2.1
theorem k0_idx489_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v326] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.2.2.2.2.2.2.1
theorem k0_idx491_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v332] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.2.2.2.2.2.2.2.1
theorem k0_idx493_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v338] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.2.2.2.2.2.2.2.2.1
theorem k0_idx495_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v344] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.2.2.2.2.2.2.2.2.2.1
theorem k0_idx497_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v350] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.2.2.2.2.2.2.2.2.2.2.1
theorem k0_idx499_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v356] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.2.2.2.2.2.2.2.2.2.2.2.1
theorem k0_idx501_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v362] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.2.2.2.2.2.2.2.2.2.2.2.2.1
theorem k0_idx503_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v368] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.2.2.2.2.2.2.2.2.2.2.2.2.2.1
theorem k0_idx505_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v374] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.2.2.2.2.2.2.2.2.2.2.2.2.2.2.1
theorem k0_idx507_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v380] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.2.2.2.2.2.2.2.2.2.2.2.2.2.2.2.1
theorem k0_idx509_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v386] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.2.2.2.2.2.2.2.2.2.2.2.2.2.2.2.2.1
theorem k0_idx511_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v473 : IVec S16 32) (k0_hw7 : k0_chk7 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473), ∀ a x, ((![v473, v392] : Fin 2 → IVec S16 32) a x).toNat < S208x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v473 k0_hw7 => k0_hw7.2.2.2.2.2.2.2.2.2.2.2.2.2.2.2.2.2.2.2.2.2.2.2.2.2.2.2.2.2.2.2.2

def k0_chk8_0 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) : Prop :=
  (∀ a x, ((![v476, v14] : Fin 2 → IVec S16 32) a x).toNat < S512x64.size a) ∧
  (∀ a x, ((![v476, v20] : Fin 2 → IVec S16 32) a x).toNat < S512x64.size a) ∧
  (∀ a x, ((![v476, v26] : Fin 2 → IVec S16 32) a x).toNat < S512x64.size a) ∧
  (∀ a x, ((![v476, v32] : Fin 2 → IVec S16 32) a x).toNat < S512x64.size a) ∧
  (∀ a x, ((![v476, v38] : Fin 2 → IVec S16 32) a x).toNat < S512x64.size a) ∧
  (∀ a x, ((![v476, v44] : Fin 2 → IVec S16 32) a x).toNat < S512x64.size a) ∧
  (∀ a x, ((![v476, v50] : Fin 2 → IVec S16 32) a x).toNat < S512x64.size a) ∧
  (∀ a x, ((![v476, v56] : Fin 2 → IVec S16 32) a x).toNat < S512x64.size a) ∧
  (∀ a x, ((![v476, v62] : Fin 2 → IVec S16 32) a x).toNat < S512x64.size a) ∧
  (∀ a x, ((![v476, v68] : Fin 2 → IVec S16 32) a x).toNat < S512x64.size a) ∧
  (∀ a x, ((![v476, v74] : Fin 2 → IVec S16 32) a x).toNat < S512x64.size a) ∧
  (∀ a x, ((![v476, v80] : Fin 2 → IVec S16 32) a x).toNat < S512x64.size a) ∧
  (∀ a x, ((![v476, v86] : Fin 2 → IVec S16 32) a x).toNat < S512x64.size a) ∧
  (∀ a x, ((![v476, v92] : Fin 2 → IVec S16 32) a x).toNat < S512x64.size a) ∧
  (∀ a x, ((![v476, v98] : Fin 2 → IVec S16 32) a x).toNat < S512x64.size a) ∧
  (∀ a x, ((![v476, v104] : Fin 2 → IVec S16 32) a x).toNat < S512x64.size a) ∧
  (∀ a x, ((![v476, v110] : Fin 2 → IVec S16 32) a x).toNat < S512x64.size a) ∧
  (∀ a x, ((![v476, v116] : Fin 2 → IVec S16 32) a x).toNat < S512x64.size a) ∧
  (∀ a x, ((![v476, v122] : Fin 2 → IVec S16 32) a x).toNat < S512x64.size a) ∧
  (∀ a x, ((![v476, v128] : Fin 2 → IVec S16 32) a x).toNat < S512x64.size a) ∧
  (∀ a x, ((![v476, v134] : Fin 2 → IVec S16 32) a x).toNat < S512x64.size a) ∧
  (∀ a x, ((![v476, v140] : Fin 2 → IVec S16 32) a x).toNat < S512x64.size a) ∧
  (∀ a x, ((![v476, v146] : Fin 2 → IVec S16 32) a x).toNat < S512x64.size a) ∧
  (∀ a x, ((![v476, v152] : Fin 2 → IVec S16 32) a x).toNat < S512x64.size a) ∧
  (∀ a x, ((![v476, v158] : Fin 2 → IVec S16 32) a x).toNat < S512x64.size a) ∧
  (∀ a x, ((![v476, v164] : Fin 2 → IVec S16 32) a x).toNat < S512x64.size a) ∧
  (∀ a x, ((![v476, v170] : Fin 2 → IVec S16 32) a x).toNat < S512x64.size a) ∧
  (∀ a x, ((![v476, v176] : Fin 2 → IVec S16 32) a x).toNat < S512x64.size a) ∧
  (∀ a x, ((![v476, v182] : Fin 2 → IVec S16 32) a x).toNat < S512x64.size a) ∧
  (∀ a x, ((![v476, v188] : Fin 2 → IVec S16 32) a x).toNat < S512x64.size a) ∧
  (∀ a x, ((![v476, v194] : Fin 2 → IVec S16 32) a x).toNat < S512x64.size a) ∧
  (∀ a x, ((![v476, v200] : Fin 2 → IVec S16 32) a x).toNat < S512x64.size a)
def k0_chk8_1 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) : Prop :=
  (∀ a x, ((![v476, v206] : Fin 2 → IVec S16 32) a x).toNat < S512x64.size a) ∧
  (∀ a x, ((![v476, v212] : Fin 2 → IVec S16 32) a x).toNat < S512x64.size a) ∧
  (∀ a x, ((![v476, v218] : Fin 2 → IVec S16 32) a x).toNat < S512x64.size a) ∧
  (∀ a x, ((![v476, v224] : Fin 2 → IVec S16 32) a x).toNat < S512x64.size a) ∧
  (∀ a x, ((![v476, v230] : Fin 2 → IVec S16 32) a x).toNat < S512x64.size a) ∧
  (∀ a x, ((![v476, v236] : Fin 2 → IVec S16 32) a x).toNat < S512x64.size a) ∧
  (∀ a x, ((![v476, v242] : Fin 2 → IVec S16 32) a x).toNat < S512x64.size a) ∧
  (∀ a x, ((![v476, v248] : Fin 2 → IVec S16 32) a x).toNat < S512x64.size a) ∧
  (∀ a x, ((![v476, v254] : Fin 2 → IVec S16 32) a x).toNat < S512x64.size a) ∧
  (∀ a x, ((![v476, v260] : Fin 2 → IVec S16 32) a x).toNat < S512x64.size a) ∧
  (∀ a x, ((![v476, v266] : Fin 2 → IVec S16 32) a x).toNat < S512x64.size a) ∧
  (∀ a x, ((![v476, v272] : Fin 2 → IVec S16 32) a x).toNat < S512x64.size a) ∧
  (∀ a x, ((![v476, v278] : Fin 2 → IVec S16 32) a x).toNat < S512x64.size a) ∧
  (∀ a x, ((![v476, v284] : Fin 2 → IVec S16 32) a x).toNat < S512x64.size a) ∧
  (∀ a x, ((![v476, v290] : Fin 2 → IVec S16 32) a x).toNat < S512x64.size a) ∧
  (∀ a x, ((![v476, v296] : Fin 2 → IVec S16 32) a x).toNat < S512x64.size a) ∧
  (∀ a x, ((![v476, v302] : Fin 2 → IVec S16 32) a x).toNat < S512x64.size a) ∧
  (∀ a x, ((![v476, v308] : Fin 2 → IVec S16 32) a x).toNat < S512x64.size a) ∧
  (∀ a x, ((![v476, v314] : Fin 2 → IVec S16 32) a x).toNat < S512x64.size a) ∧
  (∀ a x, ((![v476, v320] : Fin 2 → IVec S16 32) a x).toNat < S512x64.size a) ∧
  (∀ a x, ((![v476, v326] : Fin 2 → IVec S16 32) a x).toNat < S512x64.size a) ∧
  (∀ a x, ((![v476, v332] : Fin 2 → IVec S16 32) a x).toNat < S512x64.size a) ∧
  (∀ a x, ((![v476, v338] : Fin 2 → IVec S16 32) a x).toNat < S512x64.size a) ∧
  (∀ a x, ((![v476, v344] : Fin 2 → IVec S16 32) a x).toNat < S512x64.size a) ∧
  (∀ a x, ((![v476, v350] : Fin 2 → IVec S16 32) a x).toNat < S512x64.size a) ∧
  (∀ a x, ((![v476, v356] : Fin 2 → IVec S16 32) a x).toNat < S512x64.size a) ∧
  (∀ a x, ((![v476, v362] : Fin 2 → IVec S16 32) a x).toNat < S512x64.size a) ∧
  (∀ a x, ((![v476, v368] : Fin 2 → IVec S16 32) a x).toNat < S512x64.size a) ∧
  (∀ a x, ((![v476, v374] : Fin 2 → IVec S16 32) a x).toNat < S512x64.size a) ∧
  (∀ a x, ((![v476, v380] : Fin 2 → IVec S16 32) a x).toNat < S512x64.size a) ∧
  (∀ a x, ((![v476, v386] : Fin 2 → IVec S16 32) a x).toNat < S512x64.size a) ∧
  (∀ a x, ((![v476, v392] : Fin 2 → IVec S16 32) a x).toNat < S512x64.size a)
def k0_chk8 (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) : Prop :=
  k0_chk8_0 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 ∧
  k0_chk8_1 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476
theorem k0_idx386_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v14] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.1
theorem k0_idx388_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v20] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.1
theorem k0_idx390_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v26] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.1
theorem k0_idx392_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v32] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.1
theorem k0_idx394_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v38] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.1
theorem k0_idx396_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v44] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.1
theorem k0_idx398_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v50] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.1
theorem k0_idx400_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v56] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.1
theorem k0_idx402_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v62] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.1
theorem k0_idx404_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v68] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.1
theorem k0_idx406_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v74] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.1
theorem k0_idx408_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v80] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.1
theorem k0_idx410_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v86] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.1
theorem k0_idx412_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v92] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.1
theorem k0_idx414_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v98] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.1
theorem k0_idx416_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v104] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.2.1
theorem k0_idx418_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v110] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.2.2.1
theorem k0_idx420_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v116] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.2.2.2.1
theorem k0_idx422_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v122] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.2.2.2.2.1
theorem k0_idx424_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v128] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.2.2.2.2.2.1
theorem k0_idx426_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v134] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.2.2.2.2.2.2.1
theorem k0_idx428_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v140] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.2.2.2.2.2.2.2.1
theorem k0_idx430_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v146] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.2.2.2.2.2.2.2.2.1
theorem k0_idx432_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v152] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.2.2.2.2.2.2.2.2.2.1
theorem k0_idx434_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v158] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.2.2.2.2.2.2.2.2.2.2.1
theorem k0_idx436_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v164] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.2.2.2.2.2.2.2.2.2.2.2.1
theorem k0_idx438_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v170] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.2.2.2.2.2.2.2.2.2.2.2.2.1
theorem k0_idx440_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v176] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.2.2.2.2.2.2.2.2.2.2.2.2.2.1
theorem k0_idx442_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v182] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.2.2.2.2.2.2.2.2.2.2.2.2.2.2.1
theorem k0_idx444_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v188] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.2.2.2.2.2.2.2.2.2.2.2.2.2.2.2.1
theorem k0_idx446_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v194] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.2.2.2.2.2.2.2.2.2.2.2.2.2.2.2.2.1
theorem k0_idx448_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v200] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.1.2.2.2.2.2.2.2.2.2.2.2.2.2.2.2.2.2.2.2.2.2.2.2.2.2.2.2.2.2.2.2
theorem k0_idx450_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v206] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.1
theorem k0_idx452_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v212] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.1
theorem k0_idx454_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v218] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.1
theorem k0_idx456_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v224] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.1
theorem k0_idx458_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v230] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.1
theorem k0_idx460_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v236] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.1
theorem k0_idx462_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v242] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.1
theorem k0_idx464_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v248] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.1
theorem k0_idx466_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v254] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.1
theorem k0_idx468_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v260] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.1
theorem k0_idx470_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v266] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.1
theorem k0_idx472_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v272] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.1
theorem k0_idx474_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v278] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.1
theorem k0_idx476_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v284] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.1
theorem k0_idx478_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v290] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.1
theorem k0_idx480_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v296] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.2.1
theorem k0_idx482_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v302] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.2.2.1
theorem k0_idx484_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v308] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.2.2.2.1
theorem k0_idx486_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v314] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.2.2.2.2.1
theorem k0_idx488_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v320] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.2.2.2.2.2.1
theorem k0_idx490_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v326] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.2.2.2.2.2.2.1
theorem k0_idx492_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v332] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.2.2.2.2.2.2.2.1
theorem k0_idx494_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v338] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.2.2.2.2.2.2.2.2.1
theorem k0_idx496_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v344] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.2.2.2.2.2.2.2.2.2.1
theorem k0_idx498_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v350] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.2.2.2.2.2.2.2.2.2.2.1
theorem k0_idx500_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v356] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.2.2.2.2.2.2.2.2.2.2.2.1
theorem k0_idx502_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v362] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.2.2.2.2.2.2.2.2.2.2.2.2.1
theorem k0_idx504_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v368] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.2.2.2.2.2.2.2.2.2.2.2.2.2.1
theorem k0_idx506_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v374] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.2.2.2.2.2.2.2.2.2.2.2.2.2.2.1
theorem k0_idx508_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v380] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.2.2.2.2.2.2.2.2.2.2.2.2.2.2.2.1
theorem k0_idx510_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v386] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.2.2.2.2.2.2.2.2.2.2.2.2.2.2.2.2.1
theorem k0_idx512_inb : ∀ (v14 : IVec S16 32) (v20 : IVec S16 32) (v26 : IVec S16 32) (v32 : IVec S16 32) (v38 : IVec S16 32) (v44 : IVec S16 32) (v50 : IVec S16 32) (v56 : IVec S16 32) (v62 : IVec S16 32) (v68 : IVec S16 32) (v74 : IVec S16 32) (v80 : IVec S16 32) (v86 : IVec S16 32) (v92 : IVec S16 32) (v98 : IVec S16 32) (v104 : IVec S16 32) (v110 : IVec S16 32) (v116 : IVec S16 32) (v122 : IVec S16 32) (v128 : IVec S16 32) (v134 : IVec S16 32) (v140 : IVec S16 32) (v146 : IVec S16 32) (v152 : IVec S16 32) (v158 : IVec S16 32) (v164 : IVec S16 32) (v170 : IVec S16 32) (v176 : IVec S16 32) (v182 : IVec S16 32) (v188 : IVec S16 32) (v194 : IVec S16 32) (v200 : IVec S16 32) (v206 : IVec S16 32) (v212 : IVec S16 32) (v218 : IVec S16 32) (v224 : IVec S16 32) (v230 : IVec S16 32) (v236 : IVec S16 32) (v242 : IVec S16 32) (v248 : IVec S16 32) (v254 : IVec S16 32) (v260 : IVec S16 32) (v266 : IVec S16 32) (v272 : IVec S16 32) (v278 : IVec S16 32) (v284 : IVec S16 32) (v290 : IVec S16 32) (v296 : IVec S16 32) (v302 : IVec S16 32) (v308 : IVec S16 32) (v314 : IVec S16 32) (v320 : IVec S16 32) (v326 : IVec S16 32) (v332 : IVec S16 32) (v338 : IVec S16 32) (v344 : IVec S16 32) (v350 : IVec S16 32) (v356 : IVec S16 32) (v362 : IVec S16 32) (v368 : IVec S16 32) (v374 : IVec S16 32) (v380 : IVec S16 32) (v386 : IVec S16 32) (v392 : IVec S16 32) (v476 : IVec S16 32) (k0_hw8 : k0_chk8 v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476), ∀ a x, ((![v476, v392] : Fin 2 → IVec S16 32) a x).toNat < S512x64.size a := fun v14 v20 v26 v32 v38 v44 v50 v56 v62 v68 v74 v80 v86 v92 v98 v104 v110 v116 v122 v128 v134 v140 v146 v152 v158 v164 v170 v176 v182 v188 v194 v200 v206 v212 v218 v224 v230 v236 v242 v248 v254 v260 v266 v272 v278 v284 v290 v296 v302 v308 v314 v320 v326 v332 v338 v344 v350 v356 v362 v368 v374 v380 v386 v392 v476 k0_hw8 => k0_hw8.2.2.2.2.2.2.2.2.2.2.2.2.2.2.2.2.2.2.2.2.2.2.2.2.2.2.2.2.2.2.2.2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x200 : Shape := ⟨2, ![4096, 200]⟩
abbrev S1000x64 : Shape := ⟨2, ![1000, 64]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩

abbrev nBuf : Space → Nat
  | .hbm => 33
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000x64, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S4096x200, .i32⟩
  | .hbm, ⟨6, _⟩ => ⟨S_, .i32⟩
  | .hbm, ⟨7, _⟩ => ⟨S_, .i32⟩
  | .hbm, ⟨8, _⟩ => ⟨S4096x200, .i32⟩
  | .hbm, ⟨9, _⟩ => ⟨S4096x200, .i32⟩
  | .hbm, ⟨10, _⟩ => ⟨S_, .i32⟩
  | .hbm, ⟨11, _⟩ => ⟨S4096x200, .i32⟩
  | .hbm, ⟨12, _⟩ => ⟨S4096x200, .i1⟩
  | .hbm, ⟨13, _⟩ => ⟨S_, .i32⟩
  | .hbm, ⟨14, _⟩ => ⟨S4096x200, .i32⟩
  | .hbm, ⟨15, _⟩ => ⟨S4096x200, .i32⟩
  | .hbm, ⟨16, _⟩ => ⟨S4096x200, .i32⟩
  | .hbm, ⟨17, _⟩ => ⟨S4096x200x1, .i32⟩
  | .hbm, ⟨18, _⟩ => ⟨S1, .i32⟩
  | .hbm, ⟨19, _⟩ => ⟨S_, .i32⟩
  | .hbm, ⟨20, _⟩ => ⟨S4096x200x1, .i32⟩
  | .hbm, ⟨21, _⟩ => ⟨S4096x200x1, .i1⟩
  | .hbm, ⟨22, _⟩ => ⟨S1x1x1, .i32⟩
  | .hbm, ⟨23, _⟩ => ⟨S4096x200x1, .i32⟩
  | .hbm, ⟨24, _⟩ => ⟨S4096x200x1, .i1⟩
  | .hbm, ⟨25, _⟩ => ⟨S4096x200x1, .i1⟩
  | .hbm, ⟨26, _⟩ => ⟨S_, .i1⟩
  | .hbm, ⟨27, _⟩ => ⟨S4096x200, .i1⟩
  | .hbm, ⟨28, _⟩ => ⟨S4096x200x64, .f32⟩
  | .hbm, ⟨29, _⟩ => ⟨S4096x200x64, .i1⟩
  | .hbm, ⟨30, _⟩ => ⟨S_, .f32⟩
  | .hbm, ⟨31, _⟩ => ⟨S4096x200x64, .f32⟩
  | .hbm, ⟨32, _⟩ => ⟨S4096x200x64, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_c : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_v14 : Ref sig .tc := ⟨.hbm, 29, rfl⟩
abbrev main_call1_cst : Ref sig .tc := ⟨.hbm, 30, rfl⟩
abbrev main_call1_v15 : Ref sig .tc := ⟨.hbm, 31, rfl⟩
abbrev main_v5 : Ref sig .tc := ⟨.hbm, 32, rfl⟩

abbrev nD : Nat := 1
abbrev τ : Topo := Topo.v7x

variable {F : FTy → Type} [FloatOps F]
-- ==== Proof.FillProg.lean ====
/-
  The four loops that build a block of output rows, as one program. A trip of such a loop loads sixteen row
  numbers of the table, and then, for each of 64 column vectors in turn, gathers sixteen elements of the table
  (one per lane, at that lane's row and column) and scatters them into the staging buffer. `fillThen` is that
  gather and scatter over a list of column vectors, `fillBody` a whole trip. The theorems at the end restate the
  printed pieces of the kernel with `fillBody` in the place of the printed loop bodies.
-/
module

public import proofs.«01_k».proof.Defs
public import Idealize.ShloMosaic.Lib.SparseCore.Ops
public import proofs.«01_k».proof.Proof.Gen.KernelIdeal

@[expose] public section

set_option maxRecDepth 16384

noncomputable section

namespace Cert.Proof

open Idealize.ShloMosaic Idealize.SL.Sem Cert.KernelIdeal Cert.KernelIdeal.Gen

variable {F : FTy → Type} [FloatOps F]

/-- Rows `p` and columns `c` are inside an array of the shape `s`. -/
def InB (s : Shape) (h : s.rank = 2) (p c : IVec S16 32) : Prop := ∀ a x, ((![p, c] : Fin 2 → IVec S16 32) (a.cast h) x).toNat < s.size a

/-- One staging slot of the two-slot buffer: a whole 512 × 64 slice with its unit axis dropped. -/
abbrev slot (arg7 : Memref sig .scVector .vmem S2x512x64 .f32) (off : Fin 3 → ℕ)
    (h : ∀ a, off a + S1x512x64.size a ≤ S2x512x64.size a) : Memref sig .scVector .vmem S512x64 .f32 :=
  (arg7.slice (Rect.unit (s := S2x512x64) off S1x512x64.size h) (fun _ => rfl)).squeeze S512x64 squeezes_S1x512x64_S512x64

variable {i : grid0.Coords}

/-- The effects of the tile at grid point `i`. -/
abbrev Eff (F : FTy → Type) (i : grid0.Coords) := TpuEff nD τ sig (Elt F) Λ₀ (.scVector ((i 0).castLE hcore0) ((i 1).castLE hsub0))

section Fill

variable (arg5 : Memref sig .scVector .vmem S25616 .i32) (arg6 : Memref sig .scVector .vmem S208x64 .f32)
  (st : Memref sig .scVector .vmem S512x64 .f32) (cl : ℕ → IVec S16 32)

/-- Gather sixteen elements of the table: rows `p`, columns `cl k`. -/
abbrev gath (p : IVec S16 32) (h : ∀ k, k < 64 → InB S208x64 rfl p (cl k)) (k : ℕ) (hk : k < 64) : Prog (Eff F i) (Vec F S16 .f32) :=
  SparseCore.vectorLoadIdx arg6 ![p, cl k] (h k hk) (View.loads_vmem h_S208x64)

/-- Scatter sixteen elements into the slot: rows `r`, columns `cl k`. -/
abbrev scat (r : IVec S16 32) (h : ∀ k, k < 64 → InB S512x64 rfl r (cl k)) (k : ℕ) (hk : k < 64) (x : Vec F S16 .f32) : Prog (Eff F i) PUnit :=
  SparseCore.vectorStoreIdx st ![r, cl k] x (fun _ => 1#1) false (h k hk) (View.stores_vmem_bits_univ h_S512x64 rfl)

/-- For the columns `k`, …, `k + n - 1` in turn, gather and then scatter; go on with `K`. -/
def fillThen {α : Type} (p r : IVec S16 32) (h₁ : ∀ k, k < 64 → InB S208x64 rfl p (cl k)) (h₂ : ∀ k, k < 64 → InB S512x64 rfl r (cl k))
    (K : Prog (Eff F i) α) : (n k : ℕ) → k + n ≤ 64 → Prog (Eff F i) α
  | 0, _, _ => K
  | n + 1, k, h => do
    let x ← gath arg6 cl p h₁ k (by omega)
    scat st cl r h₂ k (by omega) x
    fillThen p r h₁ h₂ K n (k + 1) (by omega)

/-- What follows the columns may be put behind the last of them. -/
theorem fillThen_bind {α β : Type} (p r : IVec S16 32) (h₁ h₂) (K : Prog (Eff F i) α) (f : α → Prog (Eff F i) β) : ∀ (n k : ℕ) (h : k + n ≤ 64),
    (fillThen arg6 st cl p r h₁ h₂ K n k h >>= f) = fillThen arg6 st cl p r h₁ h₂ (K >>= f) n k h
  | 0, _, _ => rfl
  | n + 1, k, h => by
    rw [fillThen, fillThen]
    simp only [bind_assoc, fillThen_bind p r h₁ h₂ K f n (k + 1) (by omega)]

/-- The columns may be taken in two runs. -/
theorem fillThen_add {α : Type} (p r : IVec S16 32) (h₁ h₂) (K : Prog (Eff F i) α) (b : ℕ) : ∀ (a k : ℕ) (h : k + (a + b) ≤ 64),
    fillThen arg6 st cl p r h₁ h₂ (fillThen arg6 st cl p r h₁ h₂ K b (k + a) (by omega)) a k (by omega) = fillThen arg6 st cl p r h₁ h₂ K (a + b) k h
  | 0, k, h => by
    rw [fillThen]
    congr 1
    omega
  | a + 1, k, h => by
    have e : a + 1 + b = (a + b) + 1 := by omega
    have e' : k + (a + 1) = k + 1 + a := by omega
    have := fillThen_add p r h₁ h₂ K b a (k + 1) (by omega)
    simp only [e, e']
    rw [fillThen, fillThen, this]

variable (off : Fin 1 → ℕ) (hoff : ∀ a, off a + S16.size a ≤ S25616.size a) (C₁ C₂ : IVec S16 32 → Prop) (d₁ : ∀ p, Decidable (C₁ p))
  (d₂ : ∀ r, Decidable (C₂ r)) (r : IVec S16 32)

/-- The bounds a trip assumes of its gathers, or of its scatters, are the bounds of every column. -/
abbrev Bounds (C : IVec S16 32 → Prop) (s : Shape) (hs : s.rank = 2) (cl : ℕ → IVec S16 32) : Prop := ∀ p, C p ↔ ∀ k, k < 64 → InB s hs p (cl k)

variable (h₁ : Bounds C₁ S208x64 rfl cl) (h₂ : Bounds C₂ S512x64 rfl cl)

/-- A trip of a fill loop: load the sixteen table rows at offset `off`, assume the bounds `C₁` of the gathers
    and `C₂` of the scatters, and run over the columns. -/
def fillBody : Prog (Eff F i) (BitVec 32) := do
  let p : Vec F S16 .i32 ← Prog.lift (.load arg5 (Rect.unit (s := S25616) off S16.size hoff).toLoadRect (View.loadsAt_vmem h_S16))
  have w₁ : C₁ p := (← Prog.lift (TpuEff.assume (C₁ p) (d₁ p))).down
  have w₂ : C₂ r := (← Prog.lift (TpuEff.assume (C₂ r) (d₂ r))).down
  fillThen arg6 st cl p r ((h₁ p).1 w₁) ((h₂ r).1 w₂) (pure 0#32) 64 0 (by omega)

/-- What the first piece of a trip hands on: the rows, the bounds, and the first elements not yet stored. -/
abbrev Head (F : FTy → Type) (C₁ C₂ : IVec S16 32 → Prop) : Type := Σ' (p : Vec F S16 .i32) (_ : C₁ p) (r : IVec S16 32) (_ : C₂ r), Vec F S16 .f32

/-- The first piece of a trip, as the kernel is printed: six columns and the gather of the seventh. -/
def headPiece : Prog (Eff F i) (Head F C₁ C₂) := do
  let p : Vec F S16 .i32 ← Prog.lift (.load arg5 (Rect.unit (s := S25616) off S16.size hoff).toLoadRect (View.loadsAt_vmem h_S16))
  have w₁ : C₁ p := (← Prog.lift (TpuEff.assume (C₁ p) (d₁ p))).down
  have w₂ : C₂ r := (← Prog.lift (TpuEff.assume (C₂ r) (d₂ r))).down
  fillThen arg6 st cl p r ((h₁ p).1 w₁) ((h₂ r).1 w₂) (do let x ← gath arg6 cl p ((h₁ p).1 w₁) 6 (by omega); pure ⟨p, w₁, r, w₂, x⟩) 6 0 (by omega)

/-- A middle piece: store what was gathered at column `k`, do `n` columns, and gather the next. -/
abbrev midPiece (p r : IVec S16 32) (g₁ : ∀ k, k < 64 → InB S208x64 rfl p (cl k)) (g₂ : ∀ k, k < 64 → InB S512x64 rfl r (cl k))
    (n k : ℕ) (h : k + 1 + n < 64) (x : Vec F S16 .f32) : Prog (Eff F i) (Vec F S16 .f32) := do
  scat st cl r g₂ k (by omega) x
  fillThen arg6 st cl p r g₁ g₂ (gath arg6 cl p g₁ (k + 1 + n) h) n (k + 1) (by omega)

/-- A closing piece: store what was gathered at column `k`, do `n` columns, and return `a`. -/
abbrev endPiece {α : Type} (p r : IVec S16 32) (g₁ : ∀ k, k < 64 → InB S208x64 rfl p (cl k)) (g₂ : ∀ k, k < 64 → InB S512x64 rfl r (cl k))
    (a : α) (n k : ℕ) (h : k + 1 + n ≤ 64) (x : Vec F S16 .f32) : Prog (Eff F i) α := do
  scat st cl r g₂ k (by omega) x
  fillThen arg6 st cl p r g₁ g₂ (pure a) n (k + 1) (by omega)

/-- A trip as the two loops before the rounds are printed. -/
def bodyA : Prog (Eff F i) (BitVec 32) := do
  let ⟨p, w₁, r, w₂, x⟩ ← headPiece (F := F) (i := i) arg5 arg6 st cl off hoff C₁ C₂ d₁ d₂ r h₁ h₂
  let x ← midPiece arg6 st cl p r ((h₁ p).1 w₁) ((h₂ r).1 w₂) 8 6 (by omega) x
  let x ← midPiece arg6 st cl p r ((h₁ p).1 w₁) ((h₂ r).1 w₂) 7 15 (by omega) x
  let x ← midPiece arg6 st cl p r ((h₁ p).1 w₁) ((h₂ r).1 w₂) 8 23 (by omega) x
  endPiece arg6 st cl p r ((h₁ p).1 w₁) ((h₂ r).1 w₂) PUnit.unit 8 32 (by omega) x
  let x ← fillThen arg6 st cl p r ((h₁ p).1 w₁) ((h₂ r).1 w₂) (gath arg6 cl p ((h₁ p).1 w₁) 49 (by omega)) 8 41 (by omega)
  let x ← midPiece arg6 st cl p r ((h₁ p).1 w₁) ((h₂ r).1 w₂) 8 49 (by omega) x
  endPiece arg6 st cl p r ((h₁ p).1 w₁) ((h₂ r).1 w₂) 0#32 5 58 (by omega) x

/-- A trip as the two loops in a round are printed. -/
def bodyB : Prog (Eff F i) (BitVec 32) := do
  let ⟨p, w₁, r, w₂, x⟩ ← headPiece (F := F) (i := i) arg5 arg6 st cl off hoff C₁ C₂ d₁ d₂ r h₁ h₂
  let x ← midPiece arg6 st cl p r ((h₁ p).1 w₁) ((h₂ r).1 w₂) 8 6 (by omega) x
  let x ← midPiece arg6 st cl p r ((h₁ p).1 w₁) ((h₂ r).1 w₂) 7 15 (by omega) x
  let x ← midPiece arg6 st cl p r ((h₁ p).1 w₁) ((h₂ r).1 w₂) 8 23 (by omega) x
  let x ← midPiece arg6 st cl p r ((h₁ p).1 w₁) ((h₂ r).1 w₂) 7 32 (by omega) x
  let x ← midPiece arg6 st cl p r ((h₁ p).1 w₁) ((h₂ r).1 w₂) 8 40 (by omega) x
  endPiece arg6 st cl p r ((h₁ p).1 w₁) ((h₂ r).1 w₂) PUnit.unit 8 49 (by omega) x
  fillThen arg6 st cl p r ((h₁ p).1 w₁) ((h₂ r).1 w₂) (pure 0#32) 6 58 (by omega)

/-- A run of `n` columns, one column more, and a run of `m` columns are one run. -/
theorem fillThen_join {α : Type} (p r : IVec S16 32) (g₁ : ∀ k, k < 64 → InB S208x64 rfl p (cl k)) (g₂ : ∀ k, k < 64 → InB S512x64 rfl r (cl k))
    (K : Prog (Eff F i) α) (n k m j j' : ℕ) (hj : j = k + n) (hj' : j' = j + 1) (hk : j < 64) (h : j' + m ≤ 64) (h' : k + n ≤ 64) :
    fillThen arg6 st cl p r g₁ g₂ (gath arg6 cl p g₁ j hk >>= fun x => scat st cl r g₂ j hk x >>= fun _ => fillThen arg6 st cl p r g₁ g₂ K m j' h) n k h'
      = fillThen arg6 st cl p r g₁ g₂ K (n + (m + 1)) k (by omega) := by
  subst hj hj'
  rw [← fillThen_add arg6 st cl p r g₁ g₂ K (m + 1) n k (by omega)]
  rfl

/-- Two runs, one behind the other, are one run. -/
theorem fillThen_runs {α : Type} (p r : IVec S16 32) (g₁ : ∀ k, k < 64 → InB S208x64 rfl p (cl k)) (g₂ : ∀ k, k < 64 → InB S512x64 rfl r (cl k))
    (K : Prog (Eff F i) α) (n k m j : ℕ) (hj : j = k + n) (h : j + m ≤ 64) (h' : k + n ≤ 64) :
    fillThen arg6 st cl p r g₁ g₂ (fillThen arg6 st cl p r g₁ g₂ K m j h) n k h' = fillThen arg6 st cl p r g₁ g₂ K (n + m) k (by omega) := by
  subst hj
  exact fillThen_add arg6 st cl p r g₁ g₂ K m n k (by omega)

/-- The printed pieces of a trip, put together, are the trip. -/
theorem bodyA_eq : bodyA (F := F) (i := i) arg5 arg6 st cl off hoff C₁ C₂ d₁ d₂ r h₁ h₂ = fillBody arg5 arg6 st cl off hoff C₁ C₂ d₁ d₂ r h₁ h₂ := by
  simp only [bodyA, headPiece, midPiece, endPiece, fillBody, bind_assoc, fillThen_bind, pure_bind, Nat.reduceAdd, fillThen_join, fillThen_runs]

theorem bodyB_eq : bodyB (F := F) (i := i) arg5 arg6 st cl off hoff C₁ C₂ d₁ d₂ r h₁ h₂ = fillBody arg5 arg6 st cl off hoff C₁ C₂ d₁ d₂ r h₁ h₂ := by
  simp only [bodyB, headPiece, midPiece, endPiece, fillBody, bind_assoc, fillThen_bind, pure_bind, Nat.reduceAdd, fillThen_join, fillThen_runs]

end Fill

end Cert.Proof

end
-- ==== Proof.Pieces.lean ====
/-
  The printed pieces of the kernel, restated. Pieces 33 and 44 hold the four fill loops (two before the rounds, two
  in a round); each loop's body is `fillBody` over the kernel's 64 column vectors. Piece 34 holds the two copies in
  and the loop over the rows of the mask.
-/
module

public import proofs.«01_k».proof.Proof.FillProg

@[expose] public section

set_option maxRecDepth 16384

noncomputable section

namespace Cert.Proof

open Idealize.ShloMosaic Idealize.SL.Sem Cert.KernelIdeal Cert.KernelIdeal.Gen

variable {F : FTy → Type} [FloatOps F]

/-- Functions of `n` lane vectors with values in `β`. -/
@[reducible] def Fun.{u} (β : Type u) : ℕ → Type u
  | 0 => β
  | n + 1 => IVec S16 32 → Fun β n

/-- A function of `n` lane vectors applied to the vectors of a list of that length. -/
@[reducible] def app.{u} {β : Type u} : (l : List (IVec S16 32)) → Fun β l.length → β
  | [], f => f
  | c :: cs, f => app cs (f c)

/-- The sixteen lane numbers. -/
abbrev lanes : IVec S16 32 := iota .scVector S16 32 [0] iota_S16_d0_w32_scVector

/-- The column vector number `(m, n)`: in lane `l` it is `(l + m) mod 16 + 16 n`. -/
abbrev col (v3 : IVec S16 32) (m n : ℕ) : IVec S16 32 :=
  addi (andi (addi v3 (broadcast S16 (BitVec.ofNat 32 m))) (broadcast S16 15#32)) (broadcast S16 (BitVec.ofNat 32 (16 * n)))

/-- Column vector `k` in the order in which a trip uses them. -/
abbrev colAt (v3 : IVec S16 32) (k : ℕ) : IVec S16 32 := col v3 (k / 4) (k % 4)

/-- The first `k` column vectors. -/
@[reducible] def cols (v3 : IVec S16 32) (k : ℕ) : List (IVec S16 32) := (List.range k).map (colAt v3)

/-- The conjunction of `P` over a list, nested to the right. -/
@[reducible] def conj (P : IVec S16 32 → Prop) : List (IVec S16 32) → Prop
  | [] => True
  | [c] => P c
  | c :: d :: cs => P c ∧ conj P (d :: cs)

/-- The nested conjunction is the statement for every member. -/
theorem conj_iff (P : IVec S16 32 → Prop) : ∀ l : List (IVec S16 32), conj P l ↔ ∀ c ∈ l, P c
  | [] => by simp [conj]
  | [c] => by simp [conj]
  | c :: d :: cs => by
    rw [show conj P (c :: d :: cs) = (P c ∧ conj P (d :: cs)) from rfl, conj_iff P (d :: cs)]
    simp

/-- Two nested conjunctions over the two halves of the columns are the bounds of every column. -/
theorem bounds_of {C : IVec S16 32 → Prop} {s : Shape} {hs : s.rank = 2} (v3 : IVec S16 32)
    (h : ∀ p, C p ↔ conj (InB s hs p) ((cols v3 64).take 32) ∧ conj (InB s hs p) ((cols v3 64).drop 32)) : Bounds C s hs (colAt v3) := fun p => by
  rw [h p, conj_iff, conj_iff, ← List.forall_mem_append, List.take_append_drop, cols, List.forall_mem_map]
  simp only [List.mem_range]

/-- The row numbers of trip `k` of a fill loop: `16 k`, …, `16 k + 15`. -/
abbrev rowsAt (v3 : IVec S16 32) (k : ℕ) : IVec S16 32 := addi v3 (broadcast S16 (Scalar.muli (Scf.iv 0#32 1#32 k) 16#32))

section Pieces

variable (i : grid0.Coords) (arg2 : Memref sig .scVector .hbm S819200 .i32) (harg2 : arg2.IsWhole)
  (arg3 : Memref sig .scVector .hbm S1000x64 .f32) (harg3 : arg3.IsWhole) (arg4 : Memref sig .scVector .hbm S819200x64 .f32)
  (harg4 : arg4.IsWhole) (arg5 : Memref sig .scVector .vmem S25616 .i32) (harg5 : arg5.IsWhole)
  (arg6 : Memref sig .scVector .vmem S208x64 .f32) (harg6 : arg6.IsWhole) (arg7 : Memref sig .scVector .vmem S2x512x64 .f32)
  (harg7 : arg7.IsWhole) (arg8 arg9 s0 s1 : DmaSems sig S_) (v2 : BitVec 32) (v3 : IVec S16 32)

/-- Slots 0 and 1. -/
abbrev slot0 : Memref sig .scVector .vmem S512x64 .f32 := slot arg7 ![0, 0, 0] inb_S2x512x64_S1x512x64_0_0_0
abbrev slot1 : Memref sig .scVector .vmem S512x64 .f32 := slot arg7 ![1, 0, 0] inb_S2x512x64_S1x512x64_1_0_0

/-- A fill trip over the kernel's 64 columns. -/
abbrev fill (st : Memref sig .scVector .vmem S512x64 .f32) (off : Fin 1 → ℕ) (hoff : ∀ a, off a + S16.size a ≤ S25616.size a) (k : ℕ)
    (C₁ C₂ : Fun (IVec S16 32 → Prop) (cols v3 64).length) (d₁ : ∀ p, Decidable (app (cols v3 64) C₁ p)) (d₂ : ∀ r, Decidable (app (cols v3 64) C₂ r))
    (h₁ : ∀ p, app (cols v3 64) C₁ p ↔ conj (InB S208x64 rfl p) ((cols v3 64).take 32) ∧ conj (InB S208x64 rfl p) ((cols v3 64).drop 32))
    (h₂ : ∀ p, app (cols v3 64) C₂ p ↔ conj (InB S512x64 rfl p) ((cols v3 64).take 32) ∧ conj (InB S512x64 rfl p) ((cols v3 64).drop 32)) :
    Prog (Eff F i) (BitVec 32) :=
  fillBody arg5 arg6 st (colAt v3) off hoff (app (cols v3 64) C₁) (app (cols v3 64) C₂) d₁ d₂ (rowsAt v3 k) (bounds_of v3 h₁) (bounds_of v3 h₂)

/-- The two fill trips before the rounds, and the two in a round. -/
abbrev fill2 (k : Fin k0_t2_loop.trips) : Prog (Eff F i) (BitVec 32) :=
  fill i arg5 arg6 v3 (slot0 arg7) (k0_off3 k) (k0_off3_inb k) k k0_chk1 k0_chk2
    (fun _ => k0_chk1.dec ..) (fun _ => k0_chk2.dec ..) (fun _ => Iff.rfl) (fun _ => Iff.rfl)
abbrev fill3 (k : Fin k0_t3_loop.trips) : Prog (Eff F i) (BitVec 32) :=
  fill i arg5 arg6 v3 (slot1 arg7) (k0_off5 k) (k0_off5_inb k) k k0_chk3 k0_chk4
    (fun _ => k0_chk3.dec ..) (fun _ => k0_chk4.dec ..) (fun _ => Iff.rfl) (fun _ => Iff.rfl)
abbrev fill5 (r : Fin k0_t4_loop.trips) (k : Fin k0_t5_loop.trips) : Prog (Eff F i) (BitVec 32) :=
  fill i arg5 arg6 v3 (slot0 arg7) (k0_off7 r k) (k0_off7_inb r k) k k0_chk5 k0_chk6
    (fun _ => k0_chk5.dec ..) (fun _ => k0_chk6.dec ..) (fun _ => Iff.rfl) (fun _ => Iff.rfl)
abbrev fill6 (r : Fin k0_t4_loop.trips) (k : Fin k0_t6_loop.trips) : Prog (Eff F i) (BitVec 32) :=
  fill i arg5 arg6 v3 (slot1 arg7) (k0_off9 r k) (k0_off9_inb r k) k k0_chk7 k0_chk8
    (fun _ => k0_chk7.dec ..) (fun _ => k0_chk8.dec ..) (fun _ => Iff.rfl) (fun _ => Iff.rfl)

omit [FloatOps F] in
/-- Sequenced programs are equal when their parts are. -/
theorem bind_congr' {E : Type → Type} {α β : Type} {a a' : Prog E α} {f f' : α → Prog E β} (h : a = a') (h' : ∀ x, f x = f' x) :
    (a >>= f) = (a' >>= f') := by
  rw [h, funext h']

/-- The printed piece 44, at the kernel's columns. -/
abbrev piece44 : Prog (Eff F i) (Σ' (_ : IVec S16 32) (_ : IVec S16 32), IVec S16 32) :=
  app (β := IVec S16 32 → Prog (Eff F i) (Σ' (_ : IVec S16 32) (_ : IVec S16 32), IVec S16 32)) (cols v3 61)
    (k0_part44 i arg2 harg2 arg3 harg3 arg4 harg4 arg5 harg5 arg6 harg6 arg7 harg7 arg8 arg9 s0 s1 v2 v3) (addi v3 (broadcast S16 15#32))

set_option maxHeartbeats 4000000 in
/-- Piece 44 fills slot 0, starts its copy to the output, and fills slot 1. -/
theorem piece44_eq : piece44 (F := F) i arg2 harg2 arg3 harg3 arg4 harg4 arg5 harg5 arg6 harg6 arg7 harg7 arg8 arg9 s0 s1 v2 v3 = (do
    let _ ← Scf.Loop.for k0_t2_loop k0_t2_ok 0#32 fun k _ => fill2 (F := F) i arg5 arg6 arg7 v3 k
    Prog.lift (.enqueueDma (slot0 arg7) (.here (arg4.slice (Rect.unit (s := S819200x64) (k0_off4 i 0#32) S512x64.size (k0_off4_inb i 0)) (fun _ => rfl)))
      (.dma arg8.sem) ((View.wordExact_bits rfl).reshape _ _) (View.wordExact_bits rfl) ⟨Or.inl rfl, trivial⟩)
    let _ ← Scf.Loop.for k0_t3_loop k0_t3_ok 0#32 fun k _ => fill3 (F := F) i arg5 arg6 arg7 v3 k
    pure ⟨colAt v3 61, colAt v3 62, colAt v3 63⟩) := by
  change k0_part44 (F := F) i arg2 harg2 arg3 harg3 arg4 harg4 arg5 harg5 arg6 harg6 arg7 harg7 arg8 arg9 s0 s1 v2 v3 .. = _
  rw [k0_part44]
  refine bind_congr' (congrArg _ (funext fun k => funext fun acc => ?_)) fun _ => ?_
  · exact (show _ = bodyA .. from rfl).trans (bodyA_eq ..)
  refine bind_congr' rfl fun _ => bind_congr' (congrArg _ (funext fun k => funext fun acc => ?_)) fun _ => rfl
  exact (show _ = bodyA .. from rfl).trans (bodyA_eq ..)

/-- A block of 512 rows of the output, by its offsets. -/
abbrev blk (off : Fin 2 → ℕ) (h : ∀ a, off a + S512x64.size a ≤ S819200x64.size a) : Memref sig .scVector .hbm S512x64 .f32 :=
  arg4.slice (Rect.unit (s := S819200x64) off S512x64.size h) (fun _ => rfl)

/-- Start the copy of a slot to a block of the output. -/
abbrev copyOut (st : Memref sig .scVector .vmem S512x64 .f32) (hst : st.view.WordExact) (d : DmaSems sig S_) (off : Fin 2 → ℕ)
    (h : ∀ a, off a + S512x64.size a ≤ S819200x64.size a) : Prog (Eff F i) PUnit :=
  Prog.lift (.enqueueDma st (.here (blk arg4 off h)) (.dma d.sem) hst (View.wordExact_bits rfl) ⟨Or.inl rfl, trivial⟩)

/-- Wait for the copy of a slot to a block of the output. -/
abbrev waitOut (st : Memref sig .scVector .vmem S512x64 .f32) (hst : st.view.WordExact) (d : DmaSems sig S_) (off : Fin 2 → ℕ)
    (h : ∀ a, off a + S512x64.size a ≤ S819200x64.size a) : Prog (Eff F i) PUnit :=
  Prog.lift (.waitDma2 d.sem st (blk arg4 off h) hst (View.wordExact_bits rfl))

/-- The printed piece 33, at the kernel's columns. -/
abbrev piece33 (r : Fin k0_t4_loop.trips) : Prog (Eff F i) (BitVec 32) :=
  app (β := BitVec 32 → BitVec 32 → Fin k0_t4_loop.trips → Prog (Eff F i) (BitVec 32)) (cols v3 64)
    (k0_part33 i arg2 harg2 arg3 harg3 arg4 harg4 arg5 harg5 arg6 harg6 arg7 harg7 arg8 arg9 s0 s1 v2 v3) 1#32 1#32 r

set_option maxHeartbeats 4000000 in
/-- Piece 33, in round `r`, waits for slot 0, fills it, and starts its copy to the output. -/
theorem piece33_eq (r : Fin k0_t4_loop.trips) :
    piece33 (F := F) i arg2 harg2 arg3 harg3 arg4 harg4 arg5 harg5 arg6 harg6 arg7 harg7 arg8 arg9 s0 s1 v2 v3 r = (do
      waitOut i arg4 (slot0 arg7) ((View.wordExact_bits rfl).reshape _ _) arg8 (k0_off6 i r 0#32) (k0_off6_inb i r 0)
      let _ ← Scf.Loop.for k0_t5_loop k0_t5_ok 0#32 fun k _ => fill5 (F := F) i arg5 arg6 arg7 v3 r k
      copyOut i arg4 (slot0 arg7) ((View.wordExact_bits rfl).reshape _ _) arg8 (k0_off8 i r 0#32) (k0_off8_inb i r 0)
      pure (Scalar.addi (Scalar.muli 2#32 (Scf.iv 1#32 1#32 r)) 1#32)) := by
  change k0_part33 (F := F) i arg2 harg2 arg3 harg3 arg4 harg4 arg5 harg5 arg6 harg6 arg7 harg7 arg8 arg9 s0 s1 v2 v3 .. = _
  rw [k0_part33]
  refine bind_congr' rfl fun _ => bind_congr' (congrArg _ (funext fun k => funext fun acc => ?_)) fun _ => rfl
  exact (show _ = bodyB .. from rfl).trans (bodyB_eq ..)

/-- The rounds and the last two waits. -/
def rounds : Prog (Eff F i) PUnit := do
  copyOut i arg4 (slot1 arg7) ((View.wordExact_bits rfl).reshape _ _) arg9 (k0_off4 i 512#32) (k0_off4_inb i 1)
  let _ ← Scf.Loop.for k0_t4_loop k0_t4_ok 0#32 fun r _ => do
    let _ ← piece33 (F := F) i arg2 harg2 arg3 harg3 arg4 harg4 arg5 harg5 arg6 harg6 arg7 harg7 arg8 arg9 s0 s1 v2 v3 r
    waitOut i arg4 (slot1 arg7) ((View.wordExact_bits rfl).reshape _ _) arg9 (k0_off6 i r 1#32) (k0_off6_inb i r 1)
    let _ ← Scf.Loop.for k0_t6_loop k0_t6_ok 0#32 fun k _ => fill6 (F := F) i arg5 arg6 arg7 v3 r k
    copyOut i arg4 (slot1 arg7) ((View.wordExact_bits rfl).reshape _ _) arg9 (k0_off8 i r 1#32) (k0_off8_inb i r 1)
    pure 0#32
  waitOut i arg4 (slot0 arg7) ((View.wordExact_bits rfl).reshape _ _) arg8 (k0_off4 i 24576#32) (k0_off4_inb i 2)
  waitOut i arg4 (slot1 arg7) ((View.wordExact_bits rfl).reshape _ _) arg9 (k0_off4 i 25088#32) (k0_off4_inb i 3)
  pure ⟨⟩

omit [FloatOps F] in
/-- A program that begins with a known value goes on with it. -/
theorem bind_of_pure {E : Type → Type} {α β : Type} {a : Prog E α} {x : α} {f : α → Prog E β} (h : a = pure x) : (a >>= f) = f x := by
  rw [h, pure_bind]

set_option maxHeartbeats 4000000 in
/-- The printed piece 45 is piece 34, then (over the pieces that make the columns) piece 44, then the rounds. -/
theorem part45_eq : ∃ K : (Σ' (_ : BitVec 32) (_ : IVec S16 32) (_ : IVec S16 32), IVec S16 32) → Prog (Eff F i) PUnit,
    k0_part45 (F := F) i arg2 harg2 arg3 harg3 arg4 harg4 arg5 harg5 arg6 harg6 arg7 harg7 arg8 arg9 s0 s1
      = (k0_part34 (F := F) i arg2 harg2 arg3 harg3 arg4 harg4 arg5 harg5 arg6 harg6 arg7 harg7 arg8 arg9 s0 s1 >>= K) ∧
    ∀ v2 v3, ∃ K' : (Σ' (_ : IVec S16 32) (_ : IVec S16 32), IVec S16 32) → Prog (Eff F i) PUnit,
      K ⟨v2, v3, colAt v3 0, addi v3 (broadcast S16 0#32)⟩
        = (piece44 (F := F) i arg2 harg2 arg3 harg3 arg4 harg4 arg5 harg5 arg6 harg6 arg7 harg7 arg8 arg9 s0 s1 v2 v3 >>= K') ∧
      K' ⟨colAt v3 61, colAt v3 62, colAt v3 63⟩
        = rounds (F := F) i arg2 harg2 arg3 harg3 arg4 harg4 arg5 harg5 arg6 harg6 arg7 harg7 arg8 arg9 s0 s1 v2 v3 := by
  refine ⟨_, by rw [k0_part45], fun v2 v3 => ⟨?K, ?h₁, ?h₂⟩⟩
  case' h₁ =>
    refine (bind_of_pure (show k0_part35 (F := F) i arg2 harg2 arg3 harg3 arg4 harg4 arg5 harg5 arg6 harg6 arg7 harg7 arg8 arg9 s0 s1 v3 (addi v3 (broadcast S16 0#32)) = pure
      ⟨colAt v3 1, colAt v3 2, colAt v3 3, colAt v3 4, colAt v3 5, colAt v3 6, colAt v3 7⟩ from rfl)).trans ?_
    refine (bind_of_pure (show k0_part36 (F := F) i arg2 harg2 arg3 harg3 arg4 harg4 arg5 harg5 arg6 harg6 arg7 harg7 arg8 arg9 s0 s1 v3 = pure
      ⟨colAt v3 8, colAt v3 9, colAt v3 10, colAt v3 11, colAt v3 12, colAt v3 13, andi (addi v3 (broadcast S16 3#32)) (broadcast S16 15#32)⟩ from rfl)).trans ?_
    refine (bind_of_pure (show k0_part37 (F := F) i arg2 harg2 arg3 harg3 arg4 harg4 arg5 harg5 arg6 harg6 arg7 harg7 arg8 arg9 s0 s1 v3 (andi (addi v3 (broadcast S16 3#32)) (broadcast S16 15#32)) = pure
      ⟨colAt v3 14, colAt v3 15, colAt v3 16, colAt v3 17, colAt v3 18, colAt v3 19, colAt v3 20, addi v3 (broadcast S16 5#32)⟩ from rfl)).trans ?_
    refine (bind_of_pure (show k0_part38 (F := F) i arg2 harg2 arg3 harg3 arg4 harg4 arg5 harg5 arg6 harg6 arg7 harg7 arg8 arg9 s0 s1 v3 (addi v3 (broadcast S16 5#32)) = pure
      ⟨colAt v3 21, colAt v3 22, colAt v3 23, colAt v3 24, colAt v3 25, colAt v3 26, colAt v3 27⟩ from rfl)).trans ?_
    refine (bind_of_pure (show k0_part39 (F := F) i arg2 harg2 arg3 harg3 arg4 harg4 arg5 harg5 arg6 harg6 arg7 harg7 arg8 arg9 s0 s1 v3 = pure
      ⟨colAt v3 28, colAt v3 29, colAt v3 30, colAt v3 31, colAt v3 32, colAt v3 33, andi (addi v3 (broadcast S16 8#32)) (broadcast S16 15#32)⟩ from rfl)).trans ?_
    refine (bind_of_pure (show k0_part40 (F := F) i arg2 harg2 arg3 harg3 arg4 harg4 arg5 harg5 arg6 harg6 arg7 harg7 arg8 arg9 s0 s1 v3 (andi (addi v3 (broadcast S16 8#32)) (broadcast S16 15#32)) = pure
      ⟨colAt v3 34, colAt v3 35, colAt v3 36, colAt v3 37, colAt v3 38, colAt v3 39, colAt v3 40, addi v3 (broadcast S16 10#32)⟩ from rfl)).trans ?_
    refine (bind_of_pure (show k0_part41 (F := F) i arg2 harg2 arg3 harg3 arg4 harg4 arg5 harg5 arg6 harg6 arg7 harg7 arg8 arg9 s0 s1 v3 (addi v3 (broadcast S16 10#32)) = pure
      ⟨colAt v3 41, colAt v3 42, colAt v3 43, colAt v3 44, colAt v3 45, colAt v3 46, colAt v3 47⟩ from rfl)).trans ?_
    refine (bind_of_pure (show k0_part42 (F := F) i arg2 harg2 arg3 harg3 arg4 harg4 arg5 harg5 arg6 harg6 arg7 harg7 arg8 arg9 s0 s1 v3 = pure
      ⟨colAt v3 48, colAt v3 49, colAt v3 50, colAt v3 51, colAt v3 52, colAt v3 53, andi (addi v3 (broadcast S16 13#32)) (broadcast S16 15#32)⟩ from rfl)).trans ?_
    refine (bind_of_pure (show k0_part43 (F := F) i arg2 harg2 arg3 harg3 arg4 harg4 arg5 harg5 arg6 harg6 arg7 harg7 arg8 arg9 s0 s1 v3 (andi (addi v3 (broadcast S16 13#32)) (broadcast S16 15#32)) = pure
      ⟨colAt v3 54, colAt v3 55, colAt v3 56, colAt v3 57, colAt v3 58, colAt v3 59, colAt v3 60, addi v3 (broadcast S16 15#32)⟩ from rfl)).trans ?_
    exact rfl
  case h₂ =>
    refine bind_congr' rfl fun _ => ?_
    refine bind_congr' ?_ fun _ => rfl
    refine congrArg _ (funext fun r => funext fun acc => ?_)
    refine bind_congr' ?_ fun _ => ?_
    · rfl
    refine bind_congr' rfl fun _ => ?_
    refine bind_congr' (congrArg _ (funext fun k => funext fun acc => ?_)) fun _ => rfl
    exact (show _ = bodyB .. from rfl).trans (bodyB_eq ..)

end Pieces

end Cert.Proof

end
-- ==== Proof.RowsProg.lean ====
/-
  The first part of the kernel, restated: the copies of the table and of the tile's part of the mask, and the loop
  over the 128 rows of the mask. A row is 200 words; the kernel goes over it in twelve chunks of 16 words and one of
  8, carrying the number of ones met so far.
-/
module

public import proofs.«01_k».proof.Proof.Pieces

@[expose] public section

set_option maxRecDepth 16384

noncomputable section

namespace Cert.Proof

open Idealize.ShloMosaic Idealize.SL.Sem Cert.KernelIdeal Cert.KernelIdeal.Gen

variable {F : FTy → Type} [FloatOps F]

/-- 1 where a word of the mask is 1, and 0 elsewhere. -/
abbrev hot (x : IVec S16 32) : IVec S16 32 := extui 32 (cmpi .eq x (broadcast S16 1#32)) natLt_1_32

/-- The lanes below 8: in the last chunk of a row, those that are in the row. -/
abbrev first8 : IVec S16 1 := cmpi .slt lanes (broadcast S16 8#32)

/-- The number of ones after a chunk, from the number before. -/
abbrev carry (m c : IVec S16 32) : IVec S16 32 := addi c (broadcast S16 (extractAt ![15] (scan .sum m) inpos_S16_p15))

section Rows

variable {i : grid0.Coords} (arg5 : Memref sig .scVector .vmem S25616 .i32)

/-- Load the 16 words at `off`, and store over them. -/
abbrev ldAt (off : Fin 1 → ℕ) (h : ∀ a, off a + S16.size a ≤ S25616.size a) : Prog (Eff F i) (Vec F S16 .i32) :=
  Prog.lift (.load arg5 (Rect.unit (s := S25616) off S16.size h).toLoadRect (View.loadsAt_vmem h_S16))
abbrev stAt (off : Fin 1 → ℕ) (h : ∀ a, off a + S16.size a ≤ S25616.size a) (x : Vec F S16 .i32) : Prog (Eff F i) PUnit :=
  Prog.lift (.store arg5 (Rect.unit (s := S25616) off S16.size h) x Finset.univ (View.stores_vmem_bits_univ h_S16 rfl) (.inl rfl))

variable (off : ℕ → Fin 1 → ℕ) (h : ∀ j, j < 13 → ∀ a, off j a + S16.size a ≤ S25616.size a)

/-- `n` whole chunks of a row from chunk `j` on, at count `c`, and then `K` at the count after them. -/
def chunksThen {α : Type} (K : IVec S16 32 → Prog (Eff F i) α) : (n j : ℕ) → j + n ≤ 13 → IVec S16 32 → Prog (Eff F i) α
  | 0, _, _, c => K c
  | n + 1, j, hj, c => do
    let x ← ldAt (F := F) arg5 (off j) (h j (by omega))
    let _ ← ldAt (F := F) arg5 (off j) (h j (by omega))
    stAt (F := F) arg5 (off j) (h j (by omega)) (muli (addi (scan .sum (hot x)) c) (hot x))
    chunksThen K n (j + 1) (by omega) (carry (hot x) c)

/-- The last chunk of a row. -/
def lastChunk (c : IVec S16 32) : Prog (Eff F i) (BitVec 32) := do
  let x ← ldAt (F := F) arg5 (off 12) (h 12 (by omega))
  let _ ← ldAt (F := F) arg5 (off 12) (h 12 (by omega))
  stAt (F := F) arg5 (off 12) (h 12 (by omega))
    (select first8 (muli (addi (scan .sum (muli (hot x) (extui 32 first8 natLt_1_32))) c) (muli (hot x) (extui 32 first8 natLt_1_32))) x)
  pure 0#32

/-- A row. -/
def rowBody : Prog (Eff F i) (BitVec 32) := chunksThen (F := F) arg5 off h (lastChunk (F := F) arg5 off h) 12 0 (by omega) (broadcast S16 0#32)

end Rows

/-- The offset of chunk `j` of row `k`. -/
abbrev chunkOff (k : Fin k0_t1_loop.trips) (j : ℕ) : Fin 1 → ℕ := k0_off2 k (BitVec.ofNat 32 (16 * j))

/-- Every chunk is in the buffer. -/
theorem chunkOff_inb (k : Fin k0_t1_loop.trips) (j : ℕ) (hj : j < 13) : ∀ a, chunkOff k j a + S16.size a ≤ S25616.size a :=
  k0_off2_inb k ⟨j, hj⟩

section Part34

variable (i : grid0.Coords) (arg2 : Memref sig .scVector .hbm S819200 .i32) (harg2 : arg2.IsWhole)
  (arg3 : Memref sig .scVector .hbm S1000x64 .f32) (harg3 : arg3.IsWhole) (arg4 : Memref sig .scVector .hbm S819200x64 .f32)
  (harg4 : arg4.IsWhole) (arg5 : Memref sig .scVector .vmem S25616 .i32) (harg5 : arg5.IsWhole)
  (arg6 : Memref sig .scVector .vmem S208x64 .f32) (harg6 : arg6.IsWhole) (arg7 : Memref sig .scVector .vmem S2x512x64 .f32)
  (harg7 : arg7.IsWhole) (arg8 arg9 s0 s1 : DmaSems sig S_)

/-- The rows of the table that the kernel uses, the tile's part of the mask, and the buffer's part for it. -/
abbrev tabRows : Memref sig .scVector .hbm S208x64 .f32 :=
  arg3.slice (Rect.unit (s := S1000x64) ![0, 0] S208x64.size inb_S1000x64_S208x64_0_0) (fun _ => rfl)
abbrev maskPart : Memref sig .scVector .hbm S25600 .i32 :=
  arg2.slice (Rect.unit (s := S819200) (k0_off1 i) S25600.size (k0_off1_inb i)) (fun _ => rfl)
abbrev maskBuf : Memref sig .scVector .vmem S25600 .i32 :=
  arg5.slice (Rect.unit (s := S25616) ![0] S25600.size inb_S25616_S25600_0) (fun _ => rfl)

/-- The first word of the tile's part of the mask. -/
abbrev tileBase : BitVec 32 :=
  Scalar.muli (Scalar.addi (Scalar.muli (BitVec.ofNat 32 (i 1).val) 2#32) (BitVec.ofNat 32 (i 0).val)) 25600#32

/-- The two copies in. -/
def copiesIn : Prog (Eff F i) PUnit := do
  Prog.lift (.enqueueDma (tabRows arg3) (.here arg6) (.dma s0.sem) (View.wordExact_bits rfl) harg6.wordExact ⟨Or.inl rfl, trivial⟩)
  Prog.lift (.waitDma2 s0.sem (tabRows arg3) arg6 (View.wordExact_bits rfl) harg6.wordExact)
  Prog.lift (.enqueueDma (maskPart i arg2) (.here (maskBuf arg5)) (.dma s1.sem) (View.wordExact_bits rfl) (View.wordExact_bits rfl) ⟨Or.inl rfl, trivial⟩)
  Prog.lift (.waitDma2 s1.sem (maskPart i arg2) (maskBuf arg5) (View.wordExact_bits rfl) (View.wordExact_bits rfl))

set_option maxHeartbeats 4000000 in
/-- Piece 34 copies the table and the mask in and goes over the rows; it returns the first columns. -/
theorem part34_eq : k0_part34 (F := F) i arg2 harg2 arg3 harg3 arg4 harg4 arg5 harg5 arg6 harg6 arg7 harg7 arg8 arg9 s0 s1 = (do
    copiesIn (F := F) i arg2 arg3 arg5 arg6 harg6 s0 s1
    let _ ← Scf.Loop.for k0_t1_loop k0_t1_ok 0#32 fun k _ => rowBody (F := F) arg5 (chunkOff k) (chunkOff_inb k)
    pure ⟨tileBase i, lanes, colAt lanes 0, addi lanes (broadcast S16 0#32)⟩) := by
  rw [k0_part34]
  simp only [copiesIn, bind_assoc]
  refine bind_congr' rfl fun _ => bind_congr' rfl fun _ => bind_congr' rfl fun _ => bind_congr' rfl fun _ =>
    bind_congr' (congrArg _ (funext fun k => funext fun acc => ?_)) fun _ => rfl
  rfl

/-- A round: each slot in turn is waited for, filled, and copied out. -/
def round (r : Fin k0_t4_loop.trips) : Prog (Eff F i) (BitVec 32) := do
  waitOut i arg4 (slot0 arg7) ((View.wordExact_bits rfl).reshape _ _) arg8 (k0_off6 i r 0#32) (k0_off6_inb i r 0)
  let _ ← Scf.Loop.for k0_t5_loop k0_t5_ok 0#32 fun k _ => fill5 (F := F) i arg5 arg6 arg7 lanes r k
  copyOut i arg4 (slot0 arg7) ((View.wordExact_bits rfl).reshape _ _) arg8 (k0_off8 i r 0#32) (k0_off8_inb i r 0)
  waitOut i arg4 (slot1 arg7) ((View.wordExact_bits rfl).reshape _ _) arg9 (k0_off6 i r 1#32) (k0_off6_inb i r 1)
  let _ ← Scf.Loop.for k0_t6_loop k0_t6_ok 0#32 fun k _ => fill6 (F := F) i arg5 arg6 arg7 lanes r k
  copyOut i arg4 (slot1 arg7) ((View.wordExact_bits rfl).reshape _ _) arg9 (k0_off8 i r 1#32) (k0_off8_inb i r 1)
  pure 0#32

/-- The whole kernel. -/
def flat : Prog (Eff F i) PUnit := do
  copiesIn (F := F) i arg2 arg3 arg5 arg6 harg6 s0 s1
  let _ ← Scf.Loop.for k0_t1_loop k0_t1_ok 0#32 fun k _ => rowBody (F := F) arg5 (chunkOff k) (chunkOff_inb k)
  let _ ← Scf.Loop.for k0_t2_loop k0_t2_ok 0#32 fun k _ => fill2 (F := F) i arg5 arg6 arg7 lanes k
  copyOut i arg4 (slot0 arg7) ((View.wordExact_bits rfl).reshape _ _) arg8 (k0_off4 i 0#32) (k0_off4_inb i 0)
  let _ ← Scf.Loop.for k0_t3_loop k0_t3_ok 0#32 fun k _ => fill3 (F := F) i arg5 arg6 arg7 lanes k
  copyOut i arg4 (slot1 arg7) ((View.wordExact_bits rfl).reshape _ _) arg9 (k0_off4 i 512#32) (k0_off4_inb i 1)
  let _ ← Scf.Loop.for k0_t4_loop k0_t4_ok 0#32 fun r _ => round (F := F) i arg4 arg5 arg6 arg7 arg8 arg9 r
  waitOut i arg4 (slot0 arg7) ((View.wordExact_bits rfl).reshape _ _) arg8 (k0_off4 i 24576#32) (k0_off4_inb i 2)
  waitOut i arg4 (slot1 arg7) ((View.wordExact_bits rfl).reshape _ _) arg9 (k0_off4 i 25088#32) (k0_off4_inb i 3)
  pure ⟨⟩

set_option maxHeartbeats 4000000 in
/-- The printed kernel is `flat`. -/
theorem body_eq : cc0__body (F := F) i arg2 harg2 arg3 harg3 arg4 harg4 arg5 harg5 arg6 harg6 arg7 harg7 arg8 arg9 s0 s1 = flat (F := F) i arg2 arg3 arg4 arg5 arg6 harg6 arg7 arg8 arg9 s0 s1 := by
  obtain ⟨K, h, hK⟩ := part45_eq (F := F) i arg2 harg2 arg3 harg3 arg4 harg4 arg5 harg5 arg6 harg6 arg7 harg7 arg8 arg9 s0 s1
  obtain ⟨K', hK₁, hK₂⟩ := hK (tileBase i) lanes
  have hr (r : Fin k0_t4_loop.trips) := piece33_eq (F := F) i arg2 harg2 arg3 harg3 arg4 harg4 arg5 harg5 arg6 harg6 arg7 harg7 arg8 arg9 s0 s1 (tileBase i) lanes r
  rw [cc0__body, h, part34_eq]
  simp only [bind_assoc, pure_bind, hK₁, piece44_eq, hK₂, rounds, hr, flat, round]

end Part34

end Cert.Proof
-- ==== Proof.FillMath.lean ====
/-
  What a trip of a fill loop writes. A scatter over a rank-one vector, when lane by lane it writes the value a function
  `T` has at the place it writes to, makes its target `T` at those places and leaves the rest (`storeIdx_upd`). The
  kernel's 64 column vectors between them reach every column from every lane (`colAt_reaches`), so a trip makes its
  sixteen rows `T` and leaves the rest (`tripHits_iff`, in FillWp).
-/
module

public import proofs.«01_k».proof.Proof.Pieces

@[expose] public section

noncomputable section

namespace Cert.Proof

open Idealize.ShloMosaic Idealize.SL.Sem Cert.KernelIdeal Cert.KernelIdeal.Gen

variable {F : FTy → Type} [FloatOps F]

open Classical in
/-- `T` where `P` holds, `G` elsewhere. -/
def upd {α β : Type} (T : α → β) (P : α → Prop) (G : α → β) : α → β := fun j => if P j then T j else G j

/-- Two updates by the same function are one. -/
theorem upd_upd {α β : Type} (T : α → β) (P Q R : α → Prop) (G : α → β) (h : ∀ j, R j ↔ P j ∨ Q j) :
    upd T P (upd T Q G) = upd T R G := by
  funext j
  unfold upd
  by_cases hP : P j <;> by_cases hQ : Q j <;> simp [h, hP, hQ]

/-- An update at no place changes nothing. -/
theorem upd_none {α β : Type} (T : α → β) (P : α → Prop) (G : α → β) (h : ∀ j, ¬ P j) : upd T P G = G := by
  funext j
  simp [upd, h j]

/-- Updates at the same places are the same. -/
theorem upd_congr {α β : Type} (T : α → β) (P Q : α → Prop) (G : α → β) (h : ∀ j, P j ↔ Q j) : upd T P G = upd T Q G := by
  rw [show P = Q from funext fun j => propext (h j)]

/-- A fold of updates by one function is one update. -/
theorem foldl_upd {α β κ : Type} (T : α → β) (ix : κ → α) (step : (α → β) → κ → α → β) (hs : ∀ g k, step g k = upd T (fun j => j = ix k) g) :
    ∀ (l : List κ) (g : α → β), l.foldl step g = upd T (fun j => ∃ k ∈ l, j = ix k) g
  | [], g => (upd_none _ _ _ (by simp)).symm
  | k :: l, g => by
    rw [List.foldl_cons, foldl_upd T ix step hs l, hs]
    exact upd_upd _ _ _ _ _ fun j => by simp [or_comm]

/-- A scatter of `T`'s own values makes its target `T` at the places it reaches. -/
theorem storeIdx_upd {s : Shape} {e : EltTy} {d : Fin 1 → ℕ} (f : Vec F s e) (idxs : Fin s.rank → IVec ⟨1, d⟩ 32) (v : Vec F ⟨1, d⟩ e)
    (h : ∀ a x, (idxs a x).toNat < s.size a) (T : s.Idx → Elt F e) (hv : ∀ x, v x = T (idxAt idxs h x)) :
    storeIdx f idxs v (fun _ => 1#1) false h = upd T (fun j => ∃ x, j = idxAt idxs h x) f := by
  unfold storeIdx
  rw [foldl_upd T (fun k => idxAt idxs h (Shape.ofLane k))]
  · refine upd_congr _ _ _ _ fun j => ⟨?_, ?_⟩
    · rintro ⟨k, -, rfl⟩; exact ⟨_, rfl⟩
    · rintro ⟨x, rfl⟩
      refine ⟨x 0, List.mem_finRange _, ?_⟩
      congr 1
      funext a
      have := Fin.eq_zero a
      subst this
      rfl
  · intro g k
    funext j
    have e : (∀ a, (j a).val = (idxAt idxs h (Shape.ofLane k) a).val) ↔ j = idxAt idxs h (Shape.ofLane k) :=
      ⟨fun h' => funext fun a => Fin.ext (h' a), fun h' a => by rw [h']⟩
    rw [if_pos (show (1#1 : BitVec 1) = 1 from rfl)]
    by_cases hj : j = idxAt idxs h (Shape.ofLane k)
    · simp only [Bool.false_eq_true, if_false, upd, hj, hv, implies_true, if_true]
    · simp only [Bool.false_eq_true, if_false, upd, e, hj]

/-- Lane `x`'s number. -/
theorem lanes_apply (x : S16.Idx) : lanes x = BitVec.ofNat 32 (x 0).val := by
  simp [lanes, iota]

/-- The column of lane `x` in column vector `k`. -/
theorem colAt_toNat (k : ℕ) (hk : k < 64) (x : S16.Idx) : (colAt lanes k x).toNat = ((x 0).val + k / 4) % 16 + 16 * (k % 4) := by
  have key : ∀ (k : Fin 64) (l : Fin 16), (IntOp.addi (IntOp.andi (IntOp.addi (BitVec.ofNat 32 l.val) (BitVec.ofNat 32 (k.val / 4))) 15#32)
      (BitVec.ofNat 32 (16 * (k.val % 4)))).toNat = (l.val + k.val / 4) % 16 + 16 * (k.val % 4) := by decide +kernel
  have := key ⟨k, hk⟩ (x 0)
  rw [← this, ← lanes_apply]
  rfl

/-- The row of lane `x` in trip `k` of a fill loop. -/
theorem rowsAt_toNat (k : ℕ) (hk : k < 32) (x : S16.Idx) : (rowsAt lanes k x).toNat = 16 * k + (x 0).val := by
  have key : ∀ (k : Fin 32) (l : Fin 16), (IntOp.addi (BitVec.ofNat 32 l.val) (Scalar.muli (Scf.iv 0#32 1#32 k.val) 16#32)).toNat = 16 * k.val + l.val := by
    decide +kernel
  have := key ⟨k, hk⟩ (x 0)
  rw [← this, ← lanes_apply]
  rfl

/-- Every lane reaches every column by one of the column vectors. -/
theorem colAt_reaches (l c : ℕ) (hl : l < 16) (hc : c < 64) : ∃ k, k < 64 ∧ (l + k / 4) % 16 + 16 * (k % 4) = c := by
  have key : ∀ (l : Fin 16) (c : Fin 64), ∃ k : Fin 64, (l.val + k.val / 4) % 16 + 16 * (k.val % 4) = c.val := by decide +kernel
  obtain ⟨k, h⟩ := key ⟨l, hl⟩ ⟨c, hc⟩
  exact ⟨k, k.isLt, h⟩

end Cert.Proof
-- ==== Proof.Base.lean ====
/-
  What every module about the run shares: the program as the launch theorem sees it, the resource algebra, the thread
  of the tile at a grid point, and the predicate of a staging slot holding given contents.
-/
module

public import proofs.«01_k».proof.Proof.RowsProg
public import proofs.«01_k».proof.Proof.FillMath
public import Idealize.ShloMosaic.Lib.SparseCore.Quiescent
public import Idealize.ShloMosaic.Lib.StableHlo.Run
public import Idealize.ShloMosaic.Lib.Pipeline.Kit
public import Idealize.ShloMosaic.Lib.Tactic

@[expose] public section

set_option maxRecDepth 16384

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are four, and none of them is scoped. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The resource algebra of the run. -/
abbrev MM (F : FTy → Type) : Type := MT nD τ sig (HIx 1) (Elt F) ℕ UU ℕ

abbrev EH : Emb UH (MM F) := embL

/-- The counters of the transfers in flight. -/
abbrev EC : UEmb Counters (MM F) := countersEmb (U := UU)

/-- The thread of device `d` on the tile at grid point `i`. -/
abbrev thr (d : Dev nD) (i : grid0.Coords) : Thread nD τ := (d, .scVector ((i 0).castLE hcore0) ((i 1).castLE hsub0))

/-- The weakest precondition of a piece of the tile's program. -/
abbrev WP [FloatOps F] {α : Type} (d : Dev nD) (i : grid0.Coords) (p : Prog (Eff F i) α) (Q : α → sProp (MM F)) : sProp (MM F) :=
  wp frame (wpE defs₀ 𝒱₀ (thr d i) none) Set.univ p Q

/-- A staging slot that holds `G`. -/
def slotPts (d : Dev nD) (i : grid0.Coords) (st : Memref sig .scVector .vmem S512x64 .f32) (G : S512x64.Idx → Elt F .f32) : sProp (MM F) :=
  iprop(∃ f, (st.view.loc (thr d i) ↦[st.view.set]{fullShare} f) ∗ ⌜st.view.read (Elt F) f = G⌝)

/-- A whole view's rectangle is the view. -/
theorem set_access_all {κ : Kind} {sp : Space} {s : Shape} {e : EltTy} (st : Memref sig κ sp s e) : (st.access (.whole s)).set = st.view.set := by
  change (st.view.slice (.whole s)).set = _
  rw [View.set_slice, Rect.set_whole]
  rfl

theorem read_access_all {κ : Kind} {sp : Space} {s : Shape} {e : EltTy} (st : Memref sig κ sp s e) (f : st.view.ty.Contents (Elt F)) :
    (st.access (.whole s)).read (Elt F) f = st.view.read (Elt F) f := by
  funext x
  show _root_.cast _ (f (st.view.emb ((Rect.whole s).emb x))) = _root_.cast _ (f (st.view.emb x))
  rw [Rect.emb_whole_apply]

end Cert.Proof
-- ==== Proof.FillWp.lean ====
/-
  The fill loops, run. `tripHits_iff`: the places a trip writes are its sixteen rows. `wp_fillLoop`: a fill loop whose
  trip `k` reads the sixteen words at `B + 16 k` of the word buffer leaves the slot at the block whose row `j` is the
  table's row named by word `B + j`.
-/
module

public import proofs.«01_k».proof.Proof.Base

@[expose] public section

set_option maxRecDepth 16384

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The places that the column vectors `k`, …, `k + n - 1` reach with rows `r`. -/
def hits (r : IVec S16 32) (cl : ℕ → IVec S16 32) (k n : ℕ) (j : S512x64.Idx) : Prop :=
  ∃ k', k ≤ k' ∧ k' < k + n ∧ ∃ x, (j 0).val = (r x).toNat ∧ (j 1).val = (cl k' x).toNat

/-- Trip `t` reaches its sixteen rows, whole. -/
theorem tripHits_iff (t : ℕ) (ht : t < 32) (j : S512x64.Idx) :
    hits (rowsAt lanes t) (colAt lanes) 0 64 j ↔ 16 * t ≤ (j 0).val ∧ (j 0).val < 16 * (t + 1) := by
  constructor
  · rintro ⟨k, -, hk, x, h0, -⟩
    rw [rowsAt_toNat t ht] at h0
    have : (x 0).val < 16 := (x 0).isLt
    omega
  · rintro ⟨h0, h1⟩
    obtain ⟨k, hk, hc⟩ := colAt_reaches ((j 0).val - 16 * t) (j 1).val (by omega) (j 1).isLt
    refine ⟨k, Nat.zero_le _, by omega, Shape.ofLane (d := ![16]) ⟨(j 0).val - 16 * t, by show _ < 16; omega⟩, ?_, ?_⟩
    · rw [rowsAt_toNat t ht]; show _ = 16 * t + ((j 0).val - 16 * t); omega
    · rw [colAt_toNat k hk]; exact hc.symm

section

variable {d : Dev nD} {i : grid0.Coords} {α : Type} {Q : α → sProp (MM F)}
  (arg5 : Memref sig .scVector .vmem S25616 .i32) (arg6 : Memref sig .scVector .vmem S208x64 .f32)
  (st : Memref sig .scVector .vmem S512x64 .f32) (cl : ℕ → IVec S16 32)

/-- The buffers of words and of the table, whole. -/
abbrev wordPts (d : Dev nD) (i : grid0.Coords) (arg5 : Memref sig .scVector .vmem S25616 .i32) (f5 : Buf (Elt F) (arg5.view.loc (thr d i))) : sProp (MM F) :=
  arg5.view.loc (thr d i) ↦[Finset.univ]{fullShare} f5
abbrev tabPts (d : Dev nD) (i : grid0.Coords) (arg6 : Memref sig .scVector .vmem S208x64 .f32) (f6 : Buf (Elt F) (arg6.view.loc (thr d i))) : sProp (MM F) :=
  arg6.view.loc (thr d i) ↦[Finset.univ]{fullShare} f6

/-- A run of columns makes the slot `T` at the places it reaches, when lane by lane the table's element read is `T`'s
    at the place written. -/
theorem wp_fillThen (p r : IVec S16 32) (h₁ : ∀ k, k < 64 → InB S208x64 rfl p (cl k)) (h₂ : ∀ k, k < 64 → InB S512x64 rfl r (cl k))
    (f6 : Buf (Elt F) (arg6.view.loc (thr d i))) (T : S512x64.Idx → Elt F .f32)
    (hT : ∀ k (hk : k < 64) x, arg6.view.read (Elt F) f6 (idxAt (s := S208x64) ![p, cl k] (h₁ k hk) x) = T (idxAt (s := S512x64) ![r, cl k] (h₂ k hk) x))
    (Kp : Prog (Eff F i) α) : ∀ (n k : ℕ) (h : k + n ≤ 64) (G : S512x64.Idx → Elt F .f32),
    iprop(tabPts d i arg6 f6 ∗ slotPts d i st G)
      ⊢ iprop(((tabPts d i arg6 f6 ∗ slotPts d i st (upd T (hits r cl k n) G)) -∗ WP d i Kp Q)
        -∗ WP d i (fillThen arg6 st cl p r h₁ h₂ Kp n k h) Q)
  | 0, k, h, G => by
    rw [upd_none T _ G (fun j => by rintro ⟨k', a, b, -⟩; omega)]
    rw [fillThen]
    iintro H Hk
    iapply Hk
    iexact H
  | n + 1, k, h, G => by
    rw [fillThen]
    iintro ⟨H6, Hs⟩ Hk
    unfold slotPts
    icases Hs with ⟨%f, Hs, %hf⟩
    iapply (SparseCore.wp_vectorLoadIdx (defs := defs₀) 𝒱₀ (thr d i) none Set.univ (base := arg6) (S := Finset.univ) (q := fullShare) (f := f6) (Finset.subset_univ _)) $$ H6
    iintro H6
    have hs := set_access_all st
    rw [← hs]
    iapply (SparseCore.wp_vectorStoreIdx (defs := defs₀) 𝒱₀ (thr d i) none Set.univ (base := st) (f := f)) $$ Hs
    iintro Hs
    rw [hs]
    have key : st.view.read (Elt F) ((st.access (.whole S512x64)).write (Elt F) f (storeIdx ((st.access (.whole S512x64)).read (Elt F) f) ![r, cl k]
        (loadIdx ((arg6.access (.whole S208x64)).read (Elt F) f6) ![p, cl k] (h₁ k (by omega))) (fun _ => 1#1) false (h₂ k (by omega))) Finset.univ)
        = upd T (hits r cl k 1) G := by
      rw [← read_access_all, View.read_write_univ, read_access_all, hf]
      refine (storeIdx_upd (s := S512x64) (d := ![16]) G ![r, cl k] _ (h₂ k (by omega)) T
        (fun x => (congrFun (read_access_all arg6 f6) _).trans (hT k (by omega) x))).trans ?_
      refine upd_congr _ _ _ _ fun j => ⟨?_, ?_⟩
      · rintro ⟨x, rfl⟩; exact ⟨k, le_refl _, by omega, x, rfl, rfl⟩
      · rintro ⟨k', a, b, x, e0, e1⟩
        obtain rfl : k' = k := by omega
        refine ⟨x, funext fun a => Fin.ext ?_⟩
        match a with
        | 0 => exact e0
        | 1 => exact e1
    iapply (wp_fillThen p r h₁ h₂ f6 T hT Kp n (k + 1) _ (upd T (hits r cl k 1) G)) $$ [H6 Hs]
    · isplitl [H6]
      · iexact H6
      · unfold slotPts
        iexists _
        isplitl [Hs]
        · iexact Hs
        · ipureintro; exact key
    · rw [upd_upd T (hits r cl (k + 1) n) (hits r cl k 1) (hits r cl k (n + 1)) G (fun j => by
        constructor
        · rintro ⟨k', a, b, hx⟩
          by_cases hk : k' = k
          · exact .inr ⟨k', by omega, by omega, hx⟩
          · exact .inl ⟨k', by omega, by omega, hx⟩
        · rintro (⟨k', a, b, hx⟩ | ⟨k', a, b, hx⟩)
          · exact ⟨k', by omega, by omega, hx⟩
          · exact ⟨k', by omega, by omega, hx⟩)]
      unfold slotPts
      iexact Hk

omit [FloatOps F] in
/-- An effect, and then a program. -/
theorem lift_bind {E : Type → Type} {α β : Type} (e : E α) (k : α → Prog E β) : (Prog.lift e >>= k) = .op e k := rfl

/-- A value returned. -/
theorem WP_pure (a : α) : Q a ⊢ WP d i (pure a) Q := by
  rw [show WP d i (pure a) Q = iprop(|={Set.univ}[frame]=> Q a) from rfl]
  iintro H
  imodintro
  iexact H

/-- A trip of a fill loop. -/
theorem wp_fillBody (off : Fin 1 → ℕ) (hoff : ∀ a, off a + S16.size a ≤ S25616.size a) (C₁ C₂ : IVec S16 32 → Prop) (d₁ : ∀ p, Decidable (C₁ p))
    (d₂ : ∀ r, Decidable (C₂ r)) (r : IVec S16 32) (h₁ : Bounds C₁ S208x64 rfl cl) (h₂ : Bounds C₂ S512x64 rfl cl)
    (f5 : Buf (Elt F) (arg5.view.loc (thr d i))) (f6 : Buf (Elt F) (arg6.view.loc (thr d i))) (p : IVec S16 32)
    (hp : arg5.view.readAt (Elt F) (Rect.unit (s := S25616) off S16.size hoff).toLoadRect f5 = p)
    (g₁ : ∀ k, k < 64 → InB S208x64 rfl p (cl k)) (g₂ : ∀ k, k < 64 → InB S512x64 rfl r (cl k)) (T G : S512x64.Idx → Elt F .f32)
    (hT : ∀ k (hk : k < 64) x, arg6.view.read (Elt F) f6 (idxAt (s := S208x64) ![p, cl k] (g₁ k hk) x) = T (idxAt (s := S512x64) ![r, cl k] (g₂ k hk) x)) :
    iprop(wordPts d i arg5 f5 ∗ tabPts d i arg6 f6 ∗ slotPts d i st G)
      ⊢ WP d i (fillBody arg5 arg6 st cl off hoff C₁ C₂ d₁ d₂ r h₁ h₂)
        fun _ => iprop(wordPts d i arg5 f5 ∗ tabPts d i arg6 f6 ∗ slotPts d i st (upd T (hits r cl 0 64) G)) := by
  subst hp
  unfold fillBody
  rw [lift_bind]
  iintro ⟨H5, H6, Hs⟩
  iapply (wp_load (defs := defs₀) 𝒱₀ (thr d i) none Set.univ (S := Finset.univ) (q := fullShare) (f := f5) (Finset.subset_univ _)) $$ H5
  iintro H5
  rw [lift_bind, wp_assume_of 𝒱₀ (thr d i) none Set.univ ((h₁ _).2 g₁), lift_bind, wp_assume_of 𝒱₀ (thr d i) none Set.univ ((h₂ _).2 g₂)]
  iapply (wp_fillThen arg6 st cl _ r g₁ g₂ f6 T hT (pure 0#32) 64 0 _ G) $$ [H6 Hs]
  · isplitl [H6]
    · iexact H6
    · iexact Hs
  · iintro ⟨H6, Hs⟩
    iapply WP_pure
    isplitl [H5]
    · iexact H5
    · isplitl [H6]
      · iexact H6
      · iexact Hs

/-- A fill loop: 32 trips, the words of trip `k` being those at `B + 16 k`. -/
theorem wp_fillLoop (lp : Scf.Loop 32) (hok : lp.OK) (ht : lp.trips = 32) (off : Fin lp.trips → Fin 1 → ℕ)
    (hoff : ∀ k a, off k a + S16.size a ≤ S25616.size a) (C₁ C₂ : IVec S16 32 → Prop) (d₁ : ∀ p, Decidable (C₁ p))
    (d₂ : ∀ r, Decidable (C₂ r)) (h₁ : Bounds C₁ S208x64 rfl (colAt lanes)) (h₂ : Bounds C₂ S512x64 rfl (colAt lanes))
    (B : ℕ) (hB : ∀ k, off k 0 = B + 16 * k.val)
    (f5 : Buf (Elt F) (arg5.view.loc (thr d i))) (f6 : Buf (Elt F) (arg6.view.loc (thr d i))) (W : ℕ → BitVec 32)
    (hW : ∀ n : S25616.Idx, arg5.view.read (Elt F) f5 n = W (n 0).val) (hlt : ∀ j, j < 512 → (W (B + j)).toNat < 208)
    (tab : ℕ → ℕ → Elt F .f32) (htab : ∀ y : S208x64.Idx, arg6.view.read (Elt F) f6 y = tab (y 0).val (y 1).val) (G : S512x64.Idx → Elt F .f32)
    (kk : Prog (Eff F i) α) :
    iprop(wordPts d i arg5 f5 ∗ tabPts d i arg6 f6 ∗ slotPts d i st G)
      ⊢ iprop(((wordPts d i arg5 f5 ∗ tabPts d i arg6 f6 ∗ slotPts d i st (fun j => tab (W (B + (j 0).val)).toNat (j 1).val)) -∗ WP d i kk Q)
        -∗ WP d i (Scf.Loop.for lp hok 0#32 (fun k _ => fillBody arg5 arg6 st (colAt lanes) (off k) (hoff k) C₁ C₂ d₁ d₂ (rowsAt lanes k) h₁ h₂)
          >>= fun _ => kk) Q) := by
  set T : S512x64.Idx → Elt F .f32 := fun j => tab (W (B + (j 0).val)).toNat (j 1).val with hTdef
  have hbody : ∀ (k : Fin lp.trips) (acc : BitVec 32), iprop(wordPts d i arg5 f5 ∗ tabPts d i arg6 f6 ∗ slotPts d i st (upd T (fun j => (j 0).val < 16 * k.val) G))
      ⊢ WP d i (fillBody arg5 arg6 st (colAt lanes) (off k) (hoff k) C₁ C₂ d₁ d₂ (rowsAt lanes k) h₁ h₂)
        fun _ => iprop(wordPts d i arg5 f5 ∗ tabPts d i arg6 f6 ∗ slotPts d i st (upd T (fun j => (j 0).val < 16 * (k.val + 1)) G)) := by
    intro k acc
    have hk : k.val < 32 := k.isLt.trans_eq ht
    have hread : ∀ x : S16.Idx, arg5.view.readAt (Elt F) (Rect.unit (s := S25616) (off k) S16.size (hoff k)).toLoadRect f5 x
        = W (B + 16 * k.val + (x 0).val) := fun x => by
      rw [View.readAt_apply, hW]
      congr 1
      rw [LoadRect.idx_apply]
      show off k 0 + 1 * (x 0).val = _
      rw [hB k, Nat.one_mul]
    have hc : ∀ k x, k < 64 → (colAt lanes k x).toNat < 64 := fun k x hk => by rw [colAt_toNat k hk]; omega
    have hx16 : ∀ x : S16.Idx, (x 0).val < 16 := fun x => (x 0).isLt
    refine (wp_fillBody arg5 arg6 st (colAt lanes) (off k) (hoff k) C₁ C₂ d₁ d₂ (rowsAt lanes k) h₁ h₂ f5 f6 _ rfl
      (fun k' hk' a x => ?_) (fun k' hk' a x => ?_) T _ (fun k' hk' x => ?_)).trans (wp_mono _ _ _ fun _ => ?_)
    · match a with
      | 0 => exact (congrArg BitVec.toNat (hread x)).trans_lt (by have := hx16 x; rw [Nat.add_assoc]; exact hlt _ (by omega))
      | 1 => exact hc k' x hk'
    · match a with
      | 0 => exact (rowsAt_toNat k hk x).trans_lt (by have := hx16 x; show _ < 512; omega)
      | 1 => exact hc k' x hk'
    · rw [htab, hTdef]
      show tab (BitVec.toNat (arg5.view.readAt (Elt F) (Rect.unit (s := S25616) (off k) S16.size (hoff k)).toLoadRect f5 x)) _ = tab (W (B + (rowsAt lanes k x).toNat)).toNat _
      rw [hread, rowsAt_toNat k hk, Nat.add_assoc]
      rfl
    · rw [upd_upd T _ _ (fun j => (j 0).val < 16 * (k.val + 1)) G (fun j => by rw [tripHits_iff k hk]; omega)]
  iintro H Hk
  iapply (Scf.wp_for_bind frame (wpE defs₀ 𝒱₀ (thr d i) none) Set.univ lp.lb lp.ub lp.st hok 0#32
    (fun k _ => fillBody (F := F) (i := i) arg5 arg6 st (colAt lanes) (off k) (hoff k) C₁ C₂ d₁ d₂ (rowsAt lanes k) h₁ h₂)
    (fun k _ => iprop(wordPts d i arg5 f5 ∗ tabPts d i arg6 f6 ∗ slotPts d i st (upd T (fun j => (j 0).val < 16 * k) G))) hbody) $$ [H]
  · rw [upd_none T _ G (fun j => by omega)]
    iexact H
  · iintro %acc H
    rw [show Scf.trips lp.lb lp.ub lp.st = 32 from ht, show upd T (fun j => (j 0).val < 16 * 32) G = T from
      funext fun j => if_pos (show (j 0).val < 16 * 32 from (j 0).isLt)]
    iapply Hk
    iexact H

end

end Cert.Proof
-- ==== Proof.RowsMath.lean ====
/-
  The arithmetic of the loop over the rows of the mask. `cnt w lo hi` counts the ones of `w` from `lo` up to `hi`;
  `posv w n` is the word that replaces word `n`: the number of ones of its row up to and including it where it is a
  one, and 0 elsewhere; `swept w m` is the buffer after its first `m` words were replaced. The running sum of a chunk
  is the count from the chunk's start (`scan_cnt`), so the word the kernel stores is `posv` (`stored_eq`).
-/
module

public import proofs.«01_k».proof.Proof.RowsProg
public import proofs.«01_k».proof.Proof.FillMath

@[expose] public section

set_option maxRecDepth 16384

noncomputable section

namespace Cert.Proof

open Idealize.ShloMosaic Idealize.SL.Sem Cert.KernelIdeal Cert.KernelIdeal.Gen

/-- The number of ones of `w` among the words `lo`, …, `hi - 1`. -/
def cnt (w : ℕ → BitVec 32) (lo hi : ℕ) : ℕ := ∑ n ∈ Finset.Ico lo hi, if w n = 1#32 then 1 else 0

/-- What replaces word `n`. -/
def posv (w : ℕ → BitVec 32) (n : ℕ) : BitVec 32 := if w n = 1#32 then BitVec.ofNat 32 (cnt w (200 * (n / 200)) (n + 1)) else 0#32

/-- The words after the first `m` were replaced. -/
def swept (w : ℕ → BitVec 32) (m : ℕ) (n : ℕ) : BitVec 32 := if n < m then posv w n else w n

/-- Counts add up. -/
theorem cnt_add (w : ℕ → BitVec 32) {a b c : ℕ} (h : a ≤ b) (h' : b ≤ c) : cnt w a b + cnt w b c = cnt w a c :=
  Finset.sum_Ico_consecutive _ h h'

/-- A count is at most the number of words. -/
theorem cnt_le (w : ℕ → BitVec 32) (a b : ℕ) : cnt w a b ≤ b - a := by
  refine (Finset.sum_le_card_nsmul _ _ 1 fun n _ => ?_).trans (by simp)
  split <;> omega

/-- A replaced word is at most 200, so below 208. -/
theorem posv_lt (w : ℕ → BitVec 32) (n : ℕ) : (posv w n).toNat < 208 := by
  unfold posv
  split
  · have := cnt_le w (200 * (n / 200)) (n + 1)
    rw [BitVec.toNat_ofNat]
    exact (Nat.mod_le _ _).trans_lt (by omega)
  · decide

/-- A fold of additions of words that are numbers is the word of the sum. -/
theorem foldl_addi {κ : Type} (v : κ → BitVec 32) (g : κ → ℕ) : ∀ (l : List κ) (a : ℕ), (∀ k ∈ l, v k = BitVec.ofNat 32 (g k)) →
    l.foldl (fun r k => IntOp.addi r (v k)) (BitVec.ofNat 32 a) = BitVec.ofNat 32 (a + (l.map g).sum)
  | [], a, _ => by simp
  | k :: l, a, h => by
    rw [List.foldl_cons, h k List.mem_cons_self, show IntOp.addi (BitVec.ofNat 32 a) (BitVec.ofNat 32 (g k)) = BitVec.ofNat 32 (a + g k) from
      (BitVec.ofNat_add _ _).symm, foldl_addi v g l _ fun k' hk' => h k' (List.mem_cons_of_mem _ hk'), List.map_cons, List.sum_cons, Nat.add_assoc]

/-- The running sum of a chunk's ones is the count from the chunk's start. -/
theorem scan_cnt (w : ℕ → BitVec 32) (n₀ : ℕ) (v : IVec S16 32) (y : S16.Idx)
    (hv : ∀ k : Fin 16, k.val ≤ (y 0).val → v (Shape.ofLane (d := ![16]) k) = if w (n₀ + k.val) = 1#32 then 1#32 else 0#32) :
    scan .sum v y = BitVec.ofNat 32 (cnt w n₀ (n₀ + (y 0).val + 1)) := by
  have hy : (y 0).val < 16 := (y 0).isLt
  set g : Fin 16 → ℕ := fun k => if w (n₀ + k.val) = 1#32 then 1 else 0 with hg
  have hv' : ∀ k : Fin 16, k.val ≤ (y 0).val → v (Shape.ofLane (d := ![16]) k) = BitVec.ofNat 32 (g k) := fun k hk => by
    rw [hv k hk, hg]; dsimp only; split <;> rfl
  have h := foldl_addi (fun k : Fin 16 => v (Shape.ofLane (d := ![16]) k)) g
    ((List.finRange 16).filter fun k => decide (0 < k.val ∧ k.val ≤ (y 0).val)) (g 0) fun k hk => hv' k (by simpa using (List.mem_filter.mp hk).2 |> fun h => (of_decide_eq_true h).2)
  rw [← hv' 0 (Nat.zero_le _)] at h
  refine Eq.trans h ?_
  congr 1
  rw [← List.sum_toFinset _ ((List.nodup_finRange 16).filter _), cnt, ← Finset.sum_insert (by simp)]
  refine Finset.sum_nbij (fun k => n₀ + k.val) ?_ ?_ ?_ ?_
  · intro k hk
    have : k.val ≤ (y 0).val := by
      rcases Finset.mem_insert.mp hk with rfl | hk
      · exact Nat.zero_le _
      · exact (of_decide_eq_true (List.mem_filter.mp (List.mem_toFinset.mp hk)).2).2
    exact Finset.mem_Ico.mpr ⟨by omega, by omega⟩
  · intro a _ b _ h
    exact Fin.ext (Nat.add_left_cancel h)
  · intro n hn
    have := Finset.mem_Ico.mp (Finset.mem_coe.mp hn)
    refine ⟨⟨n - n₀, by omega⟩, Finset.mem_coe.mpr (Finset.mem_insert.mpr ?_), by show n₀ + (n - n₀) = n; omega⟩
    by_cases h0 : n = n₀
    · exact .inl (Fin.ext (by show n - n₀ = 0; omega))
    · refine .inr (List.mem_toFinset.mpr (List.mem_filter.mpr ⟨List.mem_finRange _, decide_eq_true ⟨?_, ?_⟩⟩))
      · show 0 < n - n₀; omega
      · show n - n₀ ≤ _; omega
  · intro k _
    rfl

/-- The count after a whole chunk. -/
theorem carry_eq (w : ℕ → BitVec 32) (a n₀ : ℕ) (v c : IVec S16 32) (y : S16.Idx) (ha : a ≤ n₀)
    (hv : ∀ k : Fin 16, v (Shape.ofLane (d := ![16]) k) = if w (n₀ + k.val) = 1#32 then 1#32 else 0#32)
    (hc : c y = BitVec.ofNat 32 (cnt w a n₀)) : carry v c y = BitVec.ofNat 32 (cnt w a (n₀ + 16)) := by
  have h := scan_cnt w n₀ v (Shape.ofLane (d := ![16]) (⟨15, by decide⟩ : Fin 16)) fun k _ => hv k
  have e : extractAt ![15] (scan .sum v) inpos_S16_p15 = scan .sum v (Shape.ofLane (d := ![16]) (⟨15, by decide⟩ : Fin 16)) := by
    unfold extractAt
    congr 1
    funext a
    have := Fin.eq_zero a
    subst this
    rfl
  have b : ∀ z : BitVec 32, addi c (broadcast S16 z) y = IntOp.addi (c y) z := fun _ => rfl
  have b' : ∀ z z' : BitVec 32, IntOp.addi z z' = z + z' := fun _ _ => rfl
  rw [carry, b]
  have h' : scan .sum v (Shape.ofLane (d := ![16]) (⟨15, by decide⟩ : Fin 16)) = BitVec.ofNat 32 (cnt w n₀ (n₀ + 16)) := h
  rw [e, h', hc, ← cnt_add w ha (Nat.le_add_right n₀ 16), BitVec.ofNat_add]
  exact b' _ _

/-- A lane of `hot`. -/
theorem hot_apply (x : IVec S16 32) (y : S16.Idx) : hot x y = if x y = 1#32 then 1#32 else 0#32 := by
  show BitVec.setWidth 32 (BitVec.ofBool (x y == 1#32)) = _
  by_cases h : x y = 1#32
  · rw [if_pos h, h]; rfl
  · rw [if_neg h, beq_eq_false_iff_ne.mpr h]; rfl

/-- The lanes below 8. -/
theorem first8_apply (y : S16.Idx) : first8 y = if (y 0).val < 8 then 1#1 else 0#1 := by
  have key : ∀ l : Fin 16, IntOp.cmpi .slt (BitVec.ofNat 32 l.val) 8#32 = if l.val < 8 then 1#1 else 0#1 := by decide
  rw [← key (y 0), ← lanes_apply]
  rfl

/-- The word stored at a lane whose count before the chunk was `cnt w (200 k) n₀` is `posv`. -/
theorem stored_eq (w : ℕ → BitVec 32) (k n₀ : ℕ) (v c h : IVec S16 32) (y : S16.Idx) (hk : 200 * k ≤ n₀) (hk' : n₀ + (y 0).val < 200 * (k + 1))
    (hv : scan .sum v y = BitVec.ofNat 32 (cnt w n₀ (n₀ + (y 0).val + 1))) (hc : c y = BitVec.ofNat 32 (cnt w (200 * k) n₀))
    (hh : h y = if w (n₀ + (y 0).val) = 1#32 then 1#32 else 0#32) :
    muli (addi (scan .sum v) c) h y = posv w (n₀ + (y 0).val) := by
  show (scan .sum v y + c y) * h y = _
  rw [hv, hc, hh, posv, show (n₀ + (y 0).val) / 200 = k by omega]
  split
  · rw [BitVec.mul_one, ← BitVec.ofNat_add, Nat.add_comm, cnt_add w hk (by omega)]
  · rw [BitVec.mul_zero]

end Cert.Proof
-- ==== Proof.RowsWp.lean ====
/-
  The loop over the rows of the mask, run: it replaces the word buffer's contents `w` by `swept w 25600`.
-/
module

public import proofs.«01_k».proof.Proof.FillWp
public import proofs.«01_k».proof.Proof.RowsMath

@[expose] public section

set_option maxRecDepth 16384

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {d : Dev nD} {i : grid0.Coords} {α : Type} {Q : α → sProp (MM F)}
  (arg5 : Memref sig .scVector .vmem S25616 .i32)

/-- The word buffer holds `W`. -/
def wordsAre (d : Dev nD) (i : grid0.Coords) (arg5 : Memref sig .scVector .vmem S25616 .i32) (W : ℕ → BitVec 32) : sProp (MM F) :=
  iprop(∃ f, wordPts d i arg5 f ∗ ⌜∀ n : S25616.Idx, arg5.view.read (Elt F) f n = W (n 0).val⌝)

/-- A load of sixteen words. -/
theorem wp_ldAt (off : Fin 1 → ℕ) (h : ∀ a, off a + S16.size a ≤ S25616.size a) (W : ℕ → BitVec 32) (k : Vec F S16 .i32 → Prog (Eff F i) α) :
    wordsAre d i arg5 W ⊢ iprop((wordsAre d i arg5 W -∗ WP d i (k fun y => W (off 0 + (y 0).val)) Q) -∗ WP d i (ldAt (F := F) arg5 off h >>= k) Q) := by
  unfold wordsAre
  rw [lift_bind]
  iintro ⟨%f, H, %hf⟩ Hk
  iapply (wp_load (defs := defs₀) 𝒱₀ (thr d i) none Set.univ (S := Finset.univ) (q := fullShare) (f := f) (Finset.subset_univ _)) $$ H
  iintro H
  have e : arg5.view.readAt (Elt F) (Rect.unit (s := S25616) off S16.size h).toLoadRect f = fun y : S16.Idx => W (off 0 + (y 0).val) := by
    funext y
    rw [View.readAt_apply, hf]
    congr 1
    rw [LoadRect.idx_apply]
    show off 0 + 1 * (y 0).val = _
    rw [Nat.one_mul]
  rw [e]
  iapply Hk
  iexists f
  isplitl [H]
  · iexact H
  · ipureintro; exact hf

/-- A store of sixteen words. -/
theorem wp_stAt (off : Fin 1 → ℕ) (h : ∀ a, off a + S16.size a ≤ S25616.size a) (W W' : ℕ → BitVec 32) (x : Vec F S16 .i32)
    (hin : ∀ y : S16.Idx, W' (off 0 + (y 0).val) = x y) (hout : ∀ n, n < off 0 ∨ off 0 + 16 ≤ n → W' n = W n) (k : PUnit → Prog (Eff F i) α) :
    wordsAre d i arg5 W ⊢ iprop((wordsAre d i arg5 W' -∗ WP d i (k ⟨⟩) Q) -∗ WP d i (stAt (F := F) arg5 off h x >>= k) Q) := by
  unfold wordsAre
  rw [lift_bind]
  iintro ⟨%f, H, %hf⟩ Hk
  iapply (wp_store (defs := defs₀) 𝒱₀ (thr d i) none Set.univ (m := arg5) (r := Rect.unit (s := S25616) off S16.size h) (w := x) (Mk := Finset.univ)
    (k := k) (S := Finset.univ) (f := f) (Finset.subset_univ _)) $$ H
  iintro H
  iapply Hk
  iexists _
  isplitl [H]
  · iexact H
  · ipureintro
    intro n
    by_cases hn : off 0 ≤ (n 0).val ∧ (n 0).val < off 0 + 16
    · have hx : n = (Rect.unit (s := S25616) off S16.size h).emb (Shape.ofLane (d := ![16]) ⟨(n 0).val - off 0, by show _ < 16; omega⟩) := by
        funext a
        have ha : a = 0 := Fin.eq_zero a
        subst ha
        refine Fin.ext ?_
        show (n 0).val = off 0 + 1 * ((n 0).val - off 0)
        omega
      have := View.read_slice_write_emb (v := arg5.view) (Val := Elt F) (Rect.unit (s := S25616) off S16.size h) f x
        (Finset.mem_univ (Shape.ofLane (d := ![16]) ⟨(n 0).val - off 0, by show _ < 16; omega⟩))
      rw [← hx] at this
      refine this.trans ?_
      rw [← hin]
      congr 1
      show off 0 + ((n 0).val - off 0) = _
      omega
    · rw [hout _ (by omega), ← hf]
      refine View.read_slice_write_of_not_mem (v := arg5.view) (Rect.unit (s := S25616) off S16.size h) f x Finset.univ fun hm => hn ?_
      obtain ⟨y, -, hy⟩ := Finset.mem_map.mp hm
      have h0 : (n 0).val = off 0 + 1 * (y 0).val := by rw [← hy]; rfl
      have : (y 0).val < 16 := (y 0).isLt
      omega

/-- Twelve chunks, or what is left of them. -/
theorem wp_chunks (w : ℕ → BitVec 32) (r : ℕ) (off : ℕ → Fin 1 → ℕ) (h : ∀ j, j < 13 → ∀ a, off j a + S16.size a ≤ S25616.size a)
    (hoff : ∀ j, j < 13 → off j 0 = 200 * r + 16 * j) (Kp : IVec S16 32 → Prog (Eff F i) α) : ∀ (n j : ℕ) (hj : j + n ≤ 13) (hj' : j + n ≤ 12) (c : IVec S16 32)
    (hc : ∀ y, c y = BitVec.ofNat 32 (cnt w (200 * r) (200 * r + 16 * j))),
    wordsAre d i arg5 (swept w (200 * r + 16 * j))
      ⊢ iprop((∀ c', ⌜∀ y, c' y = BitVec.ofNat 32 (cnt w (200 * r) (200 * r + 16 * (j + n)))⌝ -∗ wordsAre d i arg5 (swept w (200 * r + 16 * (j + n))) -∗ WP d i (Kp c') Q)
        -∗ WP d i (chunksThen (F := F) arg5 off h Kp n j hj c) Q)
  | 0, j, hj, hj', c, hc => by
    rw [chunksThen]
    iintro H Hk
    iapply Hk
    · ipureintro; exact hc
    · iexact H
  | n + 1, j, hj, hj', c, hc => by
    rw [chunksThen]
    iintro H Hk
    iapply (wp_ldAt arg5 (off j) _ (swept w (200 * r + 16 * j))) $$ H
    iintro H
    iapply (wp_ldAt arg5 (off j) _ (swept w (200 * r + 16 * j))) $$ H
    iintro H
    have hx : (fun y : S16.Idx => swept w (200 * r + 16 * j) (off j 0 + (y 0).val)) = fun y => w (200 * r + 16 * j + (y 0).val) := by
      funext y
      rw [hoff j (by omega), swept, if_neg (by omega)]
    rw [hx]
    have hhot : ∀ k : Fin 16, hot (fun y : S16.Idx => w (200 * r + 16 * j + (y 0).val)) (Shape.ofLane (d := ![16]) k)
        = if w (200 * r + 16 * j + k.val) = 1#32 then 1#32 else 0#32 := fun k => hot_apply _ _
    have h16 : ∀ y : S16.Idx, (y 0).val < 16 := fun y => (y 0).isLt
    iapply (wp_stAt arg5 (off j) _ (swept w (200 * r + 16 * j)) (swept w (200 * r + 16 * (j + 1))) _ (fun y => ?_) (fun n hn => ?_)) $$ H
    · rw [hoff j (by omega), swept, if_pos (by have := h16 y; omega)]
      exact (stored_eq w r (200 * r + 16 * j) _ c _ y (by omega) (by have := h16 y; omega)
        (scan_cnt w _ _ y fun k _ => hhot k) (hc y) (hot_apply _ y)).symm
    · rw [hoff j (by omega)] at hn
      unfold swept
      by_cases hlt : n < 200 * r + 16 * j
      · rw [if_pos hlt, if_pos (by omega)]
      · rw [if_neg hlt, if_neg (by omega)]
    · iintro H
      have := wp_chunks w r off h hoff Kp n (j + 1) (by omega) (by omega)
        (carry (hot fun y : S16.Idx => w (200 * r + 16 * j + (y 0).val)) c) (fun y =>
          (carry_eq w (200 * r) (200 * r + 16 * j) _ c y (by omega) hhot (hc y)).trans (by rw [show 200 * r + 16 * j + 16 = 200 * r + 16 * (j + 1) by omega]))
      iapply this $$ H
      rw [show j + 1 + n = j + (n + 1) by omega]
      iexact Hk

/-- A row. -/
theorem wp_rowBody (w : ℕ → BitVec 32) (r : ℕ) (off : ℕ → Fin 1 → ℕ) (h : ∀ j, j < 13 → ∀ a, off j a + S16.size a ≤ S25616.size a)
    (hoff : ∀ j, j < 13 → off j 0 = 200 * r + 16 * j) :
    wordsAre d i arg5 (swept w (200 * r)) ⊢ WP d i (rowBody (F := F) arg5 off h) fun _ => wordsAre d i arg5 (swept w (200 * (r + 1))) := by
  unfold rowBody
  iintro H
  have := wp_chunks (d := d) (i := i) (Q := fun _ => wordsAre d i arg5 (swept w (200 * (r + 1)))) arg5 w r off h hoff (lastChunk (F := F) arg5 off h) 12 0 (by omega) (by omega)
    (broadcast S16 0#32) (fun y => by simp [cnt]; rfl)
  iapply this $$ H
  iintro %c %hc H
  unfold lastChunk
  iapply (wp_ldAt arg5 (off 12) _ (swept w (200 * r + 16 * 12))) $$ H
  iintro H
  iapply (wp_ldAt arg5 (off 12) _ (swept w (200 * r + 16 * 12))) $$ H
  iintro H
  have hx : (fun y : S16.Idx => swept w (200 * r + 16 * 12) (off 12 0 + (y 0).val)) = fun y => w (200 * r + 16 * 12 + (y 0).val) := by
    funext y
    rw [hoff 12 (by omega), swept, if_neg (by omega)]
  rw [hx]
  have h16 : ∀ y : S16.Idx, (y 0).val < 16 := fun y => (y 0).isLt
  have hhot : ∀ y : S16.Idx, (y 0).val < 8 → muli (hot fun y : S16.Idx => w (200 * r + 16 * 12 + (y 0).val)) (extui 32 first8 natLt_1_32) y
      = if w (200 * r + 16 * 12 + (y 0).val) = 1#32 then 1#32 else 0#32 := fun y hy => by
    show hot _ y * BitVec.setWidth 32 (first8 y) = _
    rw [hot_apply, first8_apply, if_pos hy]
    exact BitVec.mul_one _
  iapply (wp_stAt arg5 (off 12) _ (swept w (200 * r + 16 * 12)) (swept w (200 * (r + 1))) _ (fun y => ?_) (fun n hn => ?_)) $$ H
  · rw [hoff 12 (by omega)]
    show _ = if first8 y = 1 then _ else _
    rw [first8_apply]
    by_cases hy : (y 0).val < 8
    · rw [if_pos hy, if_pos (show (1#1 : BitVec 1) = 1 from rfl), swept, if_pos (by omega)]
      exact (stored_eq w r (200 * r + 16 * 12) _ c _ y (by omega) (by omega)
        (scan_cnt w _ _ y fun k hk => hhot _ (lt_of_le_of_lt hk hy)) (hc y) (hhot y hy)).symm
    · rw [if_neg hy, if_neg (by decide), swept, if_neg (by omega)]
  · rw [hoff 12 (by omega)] at hn
    unfold swept
    by_cases hlt : n < 200 * r + 16 * 12
    · rw [if_pos hlt, if_pos (by omega)]
    · rw [if_neg hlt, if_neg (by omega)]
  · iintro H
    iapply WP_pure
    iexact H

/-- All the rows. -/
theorem wp_rows (w : ℕ → BitVec 32) (kk : Prog (Eff F i) α) :
    wordsAre d i arg5 w ⊢ iprop((wordsAre d i arg5 (swept w 25600) -∗ WP d i kk Q)
      -∗ WP d i (Scf.Loop.for k0_t1_loop k0_t1_ok 0#32 (fun k _ => rowBody (F := F) arg5 (chunkOff k) (chunkOff_inb k)) >>= fun _ => kk) Q) := by
  have ht : k0_t1_loop.trips = 128 := by decide
  have hbody : ∀ (k : Fin k0_t1_loop.trips) (acc : BitVec 32), wordsAre d i arg5 (swept w (200 * k.val))
      ⊢ WP d i (rowBody (F := F) arg5 (chunkOff k) (chunkOff_inb k)) fun _ => wordsAre d i arg5 (swept w (200 * (k.val + 1))) := fun k _ =>
    wp_rowBody arg5 w k (chunkOff k) (chunkOff_inb k) fun j hj => congrFun (k0_off2_eq k ⟨j, hj⟩) 0
  iintro H Hk
  iapply (Scf.wp_for_bind frame (wpE defs₀ 𝒱₀ (thr d i) none) Set.univ k0_t1_loop.lb k0_t1_loop.ub k0_t1_loop.st k0_t1_ok 0#32
    (fun k _ => rowBody (F := F) (i := i) arg5 (chunkOff k) (chunkOff_inb k)) (fun k _ => wordsAre d i arg5 (swept w (200 * k))) hbody) $$ [H]
  · rw [show swept w (200 * 0) = w from funext fun n => if_neg (by omega)]
    iexact H
  · iintro %acc H
    rw [show Scf.trips k0_t1_loop.lb k0_t1_loop.ub k0_t1_loop.st = 128 from ht]
    iapply Hk
    iexact H

end Cert.Proof
-- ==== Proof.Copies.lean ====
/-
  The copies of a tile, run: the table and the tile's part of the mask into the tile's buffers, and a staging slot to
  a block of the output.
-/
module

public import proofs.«01_k».proof.Proof.RowsWp

@[expose] public section

set_option maxRecDepth 16384

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {d : Dev nD} {i : grid0.Coords} {α : Type} {Q : α → sProp (MM F)}

/-- The kernel's memrefs: the mask, the table, the output, the word buffer, the table's buffer, the slots. -/
abbrev mV : Memref sig .scVector .hbm S819200 .i32 := Memref.whole main_v0_scv
abbrev tV : Memref sig .scVector .hbm S1000x64 .f32 := Memref.whole main_arg1_scv
abbrev oV : Memref sig .scVector .hbm S819200x64 .f32 := Memref.whole main_v1_scv
abbrev wB : Memref sig .scVector .vmem S25616 .i32 := Memref.whole cc0_scratch0
abbrev tB : Memref sig .scVector .vmem S208x64 .f32 := Memref.whole cc0_scratch1
abbrev sB : Memref sig .scVector .vmem S2x512x64 .f32 := Memref.whole cc0_scratch2

/-- The rows `lo`, …, `hi - 1` of the output. -/
def rowsIn (lo hi : ℕ) : Finset S819200x64.Idx := Finset.univ.filter fun j => lo ≤ (j 0).val ∧ (j 0).val < hi

theorem mem_rowsIn {lo hi : ℕ} {j : S819200x64.Idx} : j ∈ rowsIn lo hi ↔ lo ≤ (j 0).val ∧ (j 0).val < hi := by
  simp [rowsIn]

/-- The rows `lo`, …, `hi - 1` of the output, holding `f`. -/
abbrev outPts (d : Dev nD) (i : grid0.Coords) (lo hi : ℕ) (f : Buf (Elt F) (oV.view.loc (thr d i))) : sProp (MM F) :=
  oV.view.loc (thr d i) ↦[rowsIn lo hi]{fullShare} f

/-- The rows split at `mid`. -/
theorem outPts_split (lo mid hi : ℕ) (h : lo ≤ mid) (h' : mid ≤ hi) (f : Buf (Elt F) (oV.view.loc (thr d i))) :
    (outPts d i lo hi f : sProp (MM F)) ⊣⊢ iprop(outPts d i lo mid f ∗ outPts d i mid hi f) := by
  have e : rowsIn lo hi = rowsIn lo mid ∪ rowsIn mid hi := by
    ext j
    simp only [Finset.mem_union, mem_rowsIn]
    omega
  have hd : Disjoint (rowsIn lo mid) (rowsIn mid hi) := Finset.disjoint_left.mpr fun j h₁ h₂ => by
    have := mem_rowsIn.mp h₁; have := mem_rowsIn.mp h₂; omega
  unfold outPts
  rw [e]
  exact pointsTo_union hd

/-- No rows. -/
theorem outPts_nil (lo : ℕ) (f : Buf (Elt F) (oV.view.loc (thr d i))) : (outPts d i lo lo f : sProp (MM F)) = iprop(emp) := by
  have e : rowsIn lo lo = ∅ := by
    ext j
    simp only [mem_rowsIn, Finset.notMem_empty, iff_false]
    omega
  unfold outPts
  rw [e, pointsTo_empty]

/-- A block is 512 rows. -/
theorem blk_set (off : Fin 2 → ℕ) (h : ∀ a, off a + S512x64.size a ≤ S819200x64.size a) (h1 : off 1 = 0) :
    (blk oV off h).view.set = rowsIn (off 0) (off 0 + 512) := by
  change (oV.view.slice (Rect.unit (s := S819200x64) off S512x64.size h)).set = _
  rw [View.set_slice_whole]
  ext j
  rw [Rect.mem_set_unit, mem_rowsIn]
  constructor
  · intro hh; exact hh 0
  · intro hh a
    match a with
    | 0 => exact hh
    | 1 => exact ⟨by rw [h1]; exact Nat.zero_le _, by rw [h1]; have : (j 1).val < 64 := (j 1).isLt; show _ < 0 + 64; omega⟩

/-- What a copy of a block counts. -/
def blkCredit : ℕ := (blk oV ![0, 0] (by decide)).view.dmaCredit

/-- A slot's copy out, in flight: it will deliver the rows holding `R`, and the slot. -/
abbrev flying (d : Dev nD) (i : grid0.Coords) (st : Memref sig .scVector .vmem S512x64 .f32) (sm : DmaSems sig S_) (lo : ℕ)
    (R : Buf (Elt F) (oV.view.loc (thr d i))) : sProp (MM F) :=
  Transfers.Flight EC (thr d i) (.dma sm.sem) (default : HIx 1) blkCredit iprop(outPts d i lo (lo + 512) R ∗ ∃ G, slotPts d i st G)

/-- The place of a block's element in the output. -/
theorem blk_emb (off : Fin 2 → ℕ) (h : ∀ a, off a + S512x64.size a ≤ S819200x64.size a) (x : S512x64.Idx) (a : Fin 2) :
    ((blk oV off h).view.emb x a).val = off a + (x a).val := by
  show off a + 1 * (x a).val = _
  rw [one_mul]

/-- A slot's contents written over a block. -/
theorem blk_written (st : Memref sig .scVector .vmem S512x64 .f32) (off : Fin 2 → ℕ)
    (h : ∀ a, off a + S512x64.size a ≤ S819200x64.size a) (f : Buf (Elt F) (st.view.loc (thr d i))) (f₀ R : Buf (Elt F) (oV.view.loc (thr d i)))
    (G : S512x64.Idx → Elt F .f32) (hf : st.view.read (Elt F) f = G)
    (hR : ∀ (x : S512x64.Idx) (y : S819200x64.Idx), (∀ a, (y a).val = off a + (x a).val) → R y = G x) :
    ∀ j ∈ (blk oV off h).view.set, (blk oV off h).view.write (Elt F) f₀ (st.view.read (Elt F) f) Finset.univ j = R j := by
  intro j hj
  obtain ⟨x, -, rfl⟩ := Finset.mem_map.mp hj
  rw [View.write_emb, if_pos (Finset.mem_univ _), hf]
  exact (hR x _ (blk_emb off h x)).symm

/-- The start of a slot's copy out. -/
theorem wp_copyOut (st : Memref sig .scVector .vmem S512x64 .f32) (hst : st.view.WordExact) (sm : DmaSems sig S_) (off : Fin 2 → ℕ)
    (h : ∀ a, off a + S512x64.size a ≤ S819200x64.size a) (h1 : off 1 = 0) (f₀ R : Buf (Elt F) (oV.view.loc (thr d i))) (G : S512x64.Idx → Elt F .f32)
    (hR : ∀ (x : S512x64.Idx) (y : S819200x64.Idx), (∀ a, (y a).val = off a + (x a).val) → R y = G x) (k : PUnit → Prog (Eff F i) α) :
    iprop(slotPts d i st G ∗ outPts d i (off 0) (off 0 + 512) f₀ ∗ semVal (thr d i, SemLoc.dma sm.sem) 0)
      ⊢ iprop((flying d i st sm (off 0) R -∗ WP d i (k ⟨⟩) Q) -∗ WP d i (copyOut i oV st hst sm off h >>= k) Q) := by
  rw [lift_bind]
  unfold outPts slotPts
  rw [← blk_set off h h1]
  iintro ⟨⟨%f, Hs, %hf⟩, Ho, Hv⟩ Hk
  iapply (Transfers.wp_dmaLocal EC 𝒱₀ (thr d i) none (src := st) (dst := blk oV off h) (q := fullShare) (fs := f) (fd := f₀) (sm := .dma sm.sem)
    (Sd := (blk oV off h).view.set) (default : HIx 1) blkCredit rfl (View.dmaCredit_pos _ (by decide)) (Finset.Subset.refl _)) $$ [Hs Ho Hv]
  · isplitl [Hs]
    · iexact Hs
    · isplitl [Ho]
      · iexact Ho
      · iexact Hv
  · iintro Hfl
    iapply Hk
    iapply (Transfers.Flight_mono EC ?_) $$ Hfl
    iintro ⟨Hd, Hs⟩
    isplitl [Hd]
    · unfold outPts
      rw [← blk_set off h h1]
      iapply (BIBase.Entails.of_eq (pointsTo_congr (blk_written st off h f f₀ R G hf hR))) $$ Hd
    · iexists G
      unfold slotPts
      iexists f
      isplitl [Hs]
      · iexact Hs
      · ipureintro; exact hf

/-- The wait for a slot's copy out: the rows come back holding `R`, and the slot. -/
theorem wp_waitOut (st : Memref sig .scVector .vmem S512x64 .f32) (hst : st.view.WordExact) (sm : DmaSems sig S_) (off : Fin 2 → ℕ)
    (h : ∀ a, off a + S512x64.size a ≤ S819200x64.size a) (lo : ℕ) (R : Buf (Elt F) (oV.view.loc (thr d i)))
    (O : CellTallies nD τ sig (HIx 1)) (W : Waits sig (HIx 1)) (k : PUnit → Prog (Eff F i) α) :
    iprop(Transfers.MayWaits (thr d i) (default : HIx 1) O ∗ flying d i st sm lo R ∗ owes (thr d i) O W)
      ⊢ iprop((outPts d i lo (lo + 512) R -∗ (∃ G, slotPts d i st G) -∗ semVal (thr d i, SemLoc.dma sm.sem) 0
          -∗ owes (thr d i) O (insert (SemLoc.dma sm.sem, (default : HIx 1)) W) -∗ WP d i (k ⟨⟩) Q)
        -∗ WP d i (waitOut i oV st hst sm off h >>= k) Q) := by
  rw [lift_bind]
  iintro ⟨Hmw, Hfl, Ho⟩ Hk
  iapply (Transfers.wp_waitLocalO EC 𝒱₀ (thr d i) none (srcw := st) (dstw := blk oV off h) (hsrc := hst) (hdst := View.wordExact_bits rfl)
    (default : HIx 1) (N := blkCredit) rfl) $$ [Hmw Hfl Ho]
  · isplitl [Hfl]
    · iexact Hfl
    · isplitl [Ho]
      · iexact Ho
      · iapply (Transfers.MayWaits.elim (SemLoc.dma sm.sem)) $$ Hmw
  · iintro ⟨⟨Hr, Hs⟩, Hv, Ho⟩
    iapply Hk $$ Hr Hs Hv Ho

/-- The first row of the tile. -/
def base (i : grid0.Coords) : ℕ := 51200 * (i 1).val + 25600 * (i 0).val

theorem base_lt (i : grid0.Coords) : base i + 25600 ≤ 819200 := by
  have h0 : (i 0).val < 2 := (i 0).isLt
  have h1 : (i 1).val < 16 := (i 1).isLt
  unfold base
  omega

/-- The mask's words by number. -/
def wordOf (fm : S819200.Idx → BitVec 32) (n : ℕ) : BitVec 32 := fm fun | 0 => ⟨min n 819199, by show _ < 819200; omega⟩

/-- The table by row and column. -/
def tabOf (ft : S1000x64.Idx → Elt F .f32) (r c : ℕ) : Elt F .f32 :=
  ft fun | 0 => ⟨min r 999, by show _ < 1000; omega⟩ | 1 => ⟨min c 63, by show _ < 64; omega⟩

/-- The words `lo`, …, `hi - 1` of the mask. -/
def wordsIn (lo hi : ℕ) : Finset S819200.Idx := Finset.univ.filter fun j => lo ≤ (j 0).val ∧ (j 0).val < hi

/-- The tile's part of the mask, and a share of the table. -/
abbrev maskPts (d : Dev nD) (i : grid0.Coords) (fm : Buf (Elt F) (mV.view.loc (thr d i))) : sProp (MM F) :=
  mV.view.loc (thr d i) ↦[wordsIn (base i) (base i + 25600)]{fullShare} fm
abbrev tblPts (d : Dev nD) (i : grid0.Coords) (q : PosShare TreeShare) (ft : Buf (Elt F) (tV.view.loc (thr d i))) : sProp (MM F) :=
  tV.view.loc (thr d i) ↦[Finset.univ]{q} ft

theorem maskPart_set (i : grid0.Coords) : (maskPart i mV).view.set = wordsIn (base i) (base i + 25600) := by
  change (mV.view.slice (Rect.unit (s := S819200) (k0_off1 i) S25600.size (k0_off1_inb i))).set = _
  rw [View.set_slice_whole]
  ext j
  rw [Rect.mem_set_unit, wordsIn, Finset.mem_filter, base]
  simp only [k0_off1_eq, Finset.mem_univ, true_and]
  constructor
  · intro hh; exact hh 0
  · intro hh a
    match a with
    | 0 => exact hh

/-- The table's copied rows, read. -/
theorem tab_copied (f₆ : Buf (Elt F) (tB.view.loc (thr d i))) (ft : Buf (Elt F) (tV.view.loc (thr d i))) (y : S208x64.Idx) :
    tB.view.read (Elt F) (tB.view.write (Elt F) f₆ ((tabRows tV).view.read (Elt F) ft) Finset.univ) y = tabOf ft (y 0).val (y 1).val := by
  rw [View.read_write_univ]
  show ft _ = ft _
  congr 1
  funext a
  have h0 : (y 0).val < 208 := (y 0).isLt
  have h1 : (y 1).val < 64 := (y 1).isLt
  match a with
  | 0 => exact Fin.ext (show 0 + 1 * (y 0).val = min (y 0).val 999 by omega)
  | 1 => exact Fin.ext (show 0 + 1 * (y 1).val = min (y 1).val 63 by omega)

/-- The mask's copied words, read: the first 25600 words of the buffer. -/
theorem mask_copied (f₅ : Buf (Elt F) (wB.view.loc (thr d i))) (fm : Buf (Elt F) (mV.view.loc (thr d i))) (n : S25616.Idx) (hn : (n 0).val < 25600) :
    wB.view.read (Elt F) ((maskBuf wB).view.write (Elt F) f₅ ((maskPart i mV).view.read (Elt F) fm) Finset.univ) n = wordOf fm (base i + (n 0).val) := by
  obtain ⟨x, rfl⟩ : ∃ x : S25600.Idx, n = (maskBuf wB).view.emb x := by
    refine ⟨fun | 0 => ⟨(n 0).val, hn⟩, ?_⟩
    funext a
    match a with
    | 0 => exact Fin.ext (show (n 0).val = 0 + 1 * (n 0).val by omega)
  have hx : ((maskBuf wB).view.emb x 0).val = (x 0).val := by
    show 0 + 1 * (x 0).val = _
    omega
  have hx' : ((maskPart i mV).view.emb x 0).val = base i + (x 0).val := by
    show k0_off1 i 0 + 1 * (x 0).val = _
    rw [k0_off1_eq, one_mul]
    rfl
  rw [hx]
  refine (View.read_slice_write_emb (Val := Elt F) (v := wB.view) (Rect.unit (s := S25616) ![0] S25600.size inb_S25616_S25600_0) f₅
    ((maskPart i mV).view.read (Elt F) fm) (Finset.mem_univ x)).trans ?_
  rw [View.read_apply, wordOf]
  refine (cast_eq _ _).trans ?_
  congr 1
  have hb := base_lt i
  have hlt : (x 0).val < 25600 := (x 0).isLt
  funext a
  match a with
  | 0 => exact Fin.ext (hx'.trans (show _ = min _ 819199 by omega))

end Cert.Proof
-- ==== Proof.CopiesIn.lean ====
/-
  The two copies in, run: after them the table's buffer holds the table's first rows and the word buffer begins with the
  tile's part of the mask.
-/
module

public import proofs.«01_k».proof.Proof.Copies

@[expose] public section

set_option maxRecDepth 16384

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {d : Dev nD} {i : grid0.Coords} {α : Type} {Q : α → sProp (MM F)}

/-- A copy started and waited for: the destination holds what was read, the source comes back, the semaphore is at zero. -/
theorem wp_copyWait {sp sp' : Space} {s : Shape} {e : EltTy} (src : Memref sig .scVector sp s e) (dst : Memref sig .scVector sp' s e)
    (hs : src.view.WordExact) (hd : dst.view.WordExact) (sm : DmaSems sig S_) (hl : DmaTarget.Typed sp (SemLoc.dma sm.sem) (DmaTarget.here (p := (thr d i).2) dst : DmaTarget nD τ sig (thr d i).2 sp' s e)) (h0 : 0 < s.numel)
    (q : PosShare TreeShare) (fs : Buf (Elt F) (src.view.loc (thr d i))) (fd : Buf (Elt F) (dst.view.loc (thr d i)))
    (O : CellTallies nD τ sig (HIx 1)) (W : Waits sig (HIx 1)) (k : PUnit → Prog (Eff F i) α) :
    iprop(Transfers.MayWaits (thr d i) (default : HIx 1) O ∗ owes (thr d i) O W ∗ semVal (thr d i, SemLoc.dma sm.sem) 0
        ∗ (src.view.loc (thr d i) ↦[src.view.set]{q} fs) ∗ (dst.view.loc (thr d i) ↦[Finset.univ]{fullShare} fd))
      ⊢ iprop((owes (thr d i) O (insert (SemLoc.dma sm.sem, (default : HIx 1)) W) -∗ semVal (thr d i, SemLoc.dma sm.sem) 0
          -∗ (src.view.loc (thr d i) ↦[src.view.set]{q} fs)
          -∗ (dst.view.loc (thr d i) ↦[Finset.univ]{fullShare} dst.view.write (Elt F) fd (src.view.read (Elt F) fs) Finset.univ)
          -∗ WP d i (k ⟨⟩) Q)
        -∗ WP d i (Prog.lift (.enqueueDma src (.here dst) (.dma sm.sem) hs hd hl) >>= fun _ =>
            Prog.lift (.waitDma2 sm.sem src dst hs hd) >>= k) Q) := by
  rw [lift_bind]
  iintro ⟨Hmw, Ho, Hv, Hs, Hd⟩ Hk
  iapply (Transfers.wp_dmaLocal EC 𝒱₀ (thr d i) none (src := src) (dst := dst) (q := q) (fs := fs) (fd := fd) (sm := .dma sm.sem)
    (Sd := Finset.univ) (default : HIx 1) dst.view.dmaCredit rfl (View.dmaCredit_pos _ h0) (Finset.subset_univ _)) $$ [Hs Hd Hv]
  · isplitl [Hs]
    · iexact Hs
    · isplitl [Hd]
      · iexact Hd
      · iexact Hv
  · iintro Hfl
    rw [lift_bind]
    iapply (Transfers.wp_waitLocalO EC 𝒱₀ (thr d i) none (srcw := src) (dstw := dst) (hsrc := hs) (hdst := hd)
      (default : HIx 1) (N := dst.view.dmaCredit) rfl) $$ [Hmw Hfl Ho]
    · isplitl [Hfl]
      · iexact Hfl
      · isplitl [Ho]
        · iexact Ho
        · iapply (Transfers.MayWaits.elim (SemLoc.dma sm.sem)) $$ Hmw
    · iintro ⟨⟨Hd, Hs⟩, Hv, Ho⟩
      iapply Hk $$ Ho Hv Hs Hd

/-- The word buffer once the mask's part is in it. -/
theorem words_copied (f₅ : Buf (Elt F) (wB.view.loc (thr d i))) (fm : Buf (Elt F) (mV.view.loc (thr d i))) :
    wordPts d i wB ((maskBuf wB).view.write (Elt F) f₅ ((maskPart i mV).view.read (Elt F) fm) Finset.univ)
      ⊢ iprop(∃ w : ℕ → BitVec 32, wordsAre d i wB w ∗ ⌜∀ n < 25600, w n = wordOf fm (base i + n)⌝) := by
  generalize hg : (maskBuf wB).view.write (Elt F) f₅ ((maskPart i mV).view.read (Elt F) fm) Finset.univ = g
  have h (n : S25616.Idx) (hn : (n 0).val < 25600) : wB.view.read (Elt F) g n = wordOf fm (base i + (n 0).val) := by
    rw [← hg]
    exact mask_copied f₅ fm n hn
  clear hg
  iintro Hw
  iexists fun n => if n < 25600 then wordOf fm (base i + n) else if hn : n < 25616 then wB.view.read (Elt F) g (fun | 0 => ⟨n, show n < 25616 from hn⟩) else 0
  isplitl [Hw]
  · unfold wordsAre
    iexists g
    isplitl [Hw]
    · iexact Hw
    · ipureintro
      intro n
      have hn : (n 0).val < 25616 := (n 0).isLt
      by_cases hc : (n 0).val < 25600
      · exact (h n hc).trans (if_pos hc).symm
      · refine Eq.trans ?_ (((if_neg hc).trans (dif_pos hn)).symm)
        congr 1
        funext a
        match a with
        | 0 => rfl
  · ipureintro
    exact fun n hn => if_pos hn

/-- The two copies in. -/
theorem wp_copiesIn (s0 s1 : DmaSems sig S_) (q : PosShare TreeShare) (fm : Buf (Elt F) (mV.view.loc (thr d i))) (ft : Buf (Elt F) (tV.view.loc (thr d i)))
    (f₅ : Buf (Elt F) (wB.view.loc (thr d i))) (f₆ : Buf (Elt F) (tB.view.loc (thr d i)))
    (O : CellTallies nD τ sig (HIx 1)) (W : Waits sig (HIx 1)) (k : Prog (Eff F i) α) :
    iprop(Transfers.MayWaits (thr d i) (default : HIx 1) O ∗ owes (thr d i) O W
        ∗ semVal (thr d i, SemLoc.dma s0.sem) 0 ∗ semVal (thr d i, SemLoc.dma s1.sem) 0
        ∗ maskPts d i fm ∗ tblPts d i q ft ∗ wordPts d i wB f₅ ∗ tabPts d i tB f₆)
      ⊢ iprop((owes (thr d i) O (insert (SemLoc.dma s1.sem, (default : HIx 1)) (insert (SemLoc.dma s0.sem, (default : HIx 1)) W))
          -∗ semVal (thr d i, SemLoc.dma s0.sem) 0 -∗ semVal (thr d i, SemLoc.dma s1.sem) 0
          -∗ maskPts d i fm -∗ tblPts d i q ft
          -∗ (∃ w : ℕ → BitVec 32, wordsAre d i wB w ∗ ⌜∀ n < 25600, w n = wordOf fm (base i + n)⌝)
          -∗ (∃ f, tabPts d i tB f ∗ ⌜∀ y, tB.view.read (Elt F) f y = tabOf ft (y 0).val (y 1).val⌝)
          -∗ WP d i k Q)
        -∗ WP d i (copiesIn i mV tV wB tB (Memref.isWhole_whole _) s0 s1 >>= fun _ => k) Q) := by
  unfold copiesIn
  simp only [bind_assoc]
  iintro ⟨Hmw, Ho, Hv0, Hv1, Hm, Ht, Hw, Hb⟩ Hk
  ihave #Hmw' := Hmw
  ihave ⟨Ht1, Ht2⟩ := (pointsTo_split_subset (ℓ := tV.view.loc (thr d i)) (q := q) (f := ft) (Finset.subset_univ (tabRows tV).view.set)).1 $$ Ht
  iapply (wp_copyWait (tabRows tV) tB (View.wordExact_bits rfl) (Memref.isWhole_whole _).wordExact s0 ⟨Or.inl rfl, trivial⟩ (by decide) q ft f₆ O W _)
    $$ [Ho Hv0 Ht1 Hb]
  · isplitl []
    · iexact Hmw'
    · isplitl [Ho]
      · iexact Ho
      · isplitl [Hv0]
        · iexact Hv0
        · isplitl [Ht1]
          · iexact Ht1
          · iexact Hb
  iintro Ho Hv0 Ht1 Hb
  iapply (wp_copyWait (maskPart i mV) (maskBuf wB) (View.wordExact_bits rfl) (View.wordExact_bits rfl) s1 ⟨Or.inl rfl, trivial⟩ (by decide) fullShare fm f₅
    O _ _) $$ [Ho Hv1 Hm Hw]
  · isplitl []
    · iexact Hmw'
    · isplitl [Ho]
      · iexact Ho
      · isplitl [Hv1]
        · iexact Hv1
        · isplitl [Hm]
          · rw [maskPart_set]
            iexact Hm
          · iexact Hw
  iintro Ho Hv1 Hm Hw
  ihave Ht := (pointsTo_split_subset (ℓ := tV.view.loc (thr d i)) (q := q) (f := ft) (Finset.subset_univ (tabRows tV).view.set)).2 $$ [Ht1 Ht2]
  · isplitl [Ht1]
    · iexact Ht1
    · iexact Ht2
  rw [maskPart_set]
  iapply Hk $$ Ho Hv0 Hv1 Hm Ht [Hw] [Hb]
  · iapply (words_copied f₅ fm) $$ Hw
  · iexists _
    isplitl [Hb]
    · iexact Hb
    · ipureintro
      exact tab_copied f₆ ft

end Cert.Proof
-- ==== Proof.Turn.lean ====
/-
  A slot's turn: waited for, filled with the table's rows that the next words name, and copied out.
-/
module

public import proofs.«01_k».proof.Proof.CopiesIn

@[expose] public section

set_option maxRecDepth 16384

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {d : Dev nD} {i : grid0.Coords} {α : Type} {Q : α → sProp (MM F)}

/-- The tile owes `O`, and has waited, beyond `W`, only on cells of its own. -/
def owing (d : Dev nD) (i : grid0.Coords) (O : CellTallies nD τ sig (HIx 1)) (W : Waits sig (HIx 1)) : sProp (MM F) :=
  iprop(∃ W', ⌜∀ p ∈ W', p ∈ W ∨ p.2 = (none : HIx 1)⌝ ∗ owes (thr d i) O W')

/-- The wait for a slot's copy out, the record of waits kept abstract. -/
theorem wp_waitOut' (st : Memref sig .scVector .vmem S512x64 .f32) (hst : st.view.WordExact) (sm : DmaSems sig S_) (off : Fin 2 → ℕ)
    (h : ∀ a, off a + S512x64.size a ≤ S819200x64.size a) (lo : ℕ) (R : Buf (Elt F) (oV.view.loc (thr d i)))
    (O : CellTallies nD τ sig (HIx 1)) (W : Waits sig (HIx 1)) (k : PUnit → Prog (Eff F i) α) :
    iprop(Transfers.MayWaits (thr d i) (default : HIx 1) O ∗ flying d i st sm lo R ∗ owing d i O W)
      ⊢ iprop((outPts d i lo (lo + 512) R -∗ (∃ G, slotPts d i st G) -∗ semVal (thr d i, SemLoc.dma sm.sem) 0
          -∗ owing d i O W -∗ WP d i (k ⟨⟩) Q)
        -∗ WP d i (waitOut i oV st hst sm off h >>= k) Q) := by
  unfold owing
  iintro ⟨Hmw, Hfl, %W', %hW', Ho⟩ Hk
  iapply (wp_waitOut st hst sm off h lo R O W' k) $$ [Hmw Hfl Ho]
  · isplitl [Hmw]
    · iexact Hmw
    · isplitl [Hfl]
      · iexact Hfl
      · iexact Ho
  iintro Hr Hs Hv Ho
  iapply Hk $$ Hr Hs Hv
  iexists _
  isplitl []
  rotate_left
  · iexact Ho
  · ipureintro
    intro p hp
    rcases Finset.mem_insert.mp hp with rfl | hp
    · exact Or.inr rfl
    · exact hW' p hp

section

variable (st : Memref sig .scVector .vmem S512x64 .f32) (hst : st.view.WordExact) (sm : DmaSems sig S_)
  (lp : Scf.Loop 32) (hok : lp.OK) (ht : lp.trips = 32) (off : Fin lp.trips → Fin 1 → ℕ)
  (hoff : ∀ k a, off k a + S16.size a ≤ S25616.size a) (C₁ C₂ : IVec S16 32 → Prop) (d₁ : ∀ p, Decidable (C₁ p))
  (d₂ : ∀ r, Decidable (C₂ r)) (h₁ : Bounds C₁ S208x64 rfl (colAt lanes)) (h₂ : Bounds C₂ S512x64 rfl (colAt lanes))
  (B : ℕ) (hB : ∀ k, off k 0 = B + 16 * k.val)
  (f₅ : Buf (Elt F) (wB.view.loc (thr d i))) (f₆ : Buf (Elt F) (tB.view.loc (thr d i))) (V : ℕ → BitVec 32)
  (hV : ∀ n : S25616.Idx, wB.view.read (Elt F) f₅ n = V (n 0).val) (hlt : ∀ n, n < 25600 → (V n).toNat < 208)
  (tab : ℕ → ℕ → Elt F .f32) (htab : ∀ y : S208x64.Idx, tB.view.read (Elt F) f₆ y = tab (y 0).val (y 1).val)
  (f₀ R : Buf (Elt F) (oV.view.loc (thr d i)))
  (hR : ∀ (y : S819200x64.Idx) (n : ℕ), n < 25600 → (y 0).val = base i + n → R y = tab (V n).toNat (y 1).val)

include ht hB hV hlt htab hR

/-- A slot filled and its copy out started, at the words from `B` on. -/
theorem wp_fillCopy (hB' : B + 512 ≤ 25600) (o : Fin 2 → ℕ) (ho : ∀ a, o a + S512x64.size a ≤ S819200x64.size a) (ho0 : o = ![base i + B, 0])
    (k : PUnit → Prog (Eff F i) α) :
    iprop(wordPts d i wB f₅ ∗ tabPts d i tB f₆ ∗ (∃ G, slotPts d i st G) ∗ outPts d i (base i + B) (base i + B + 512) f₀
        ∗ semVal (thr d i, SemLoc.dma sm.sem) 0)
      ⊢ iprop((wordPts d i wB f₅ -∗ tabPts d i tB f₆ -∗ flying d i st sm (base i + B) R -∗ WP d i (k ⟨⟩) Q)
        -∗ WP d i (Scf.Loop.for lp hok 0#32 (fun k _ => fillBody wB tB st (colAt lanes) (off k) (hoff k) C₁ C₂ d₁ d₂ (rowsAt lanes k) h₁ h₂)
          >>= fun _ => copyOut i oV st hst sm o ho >>= k) Q) := by
  have e0 : o 0 = base i + B := by rw [ho0]; rfl
  have e1 : o 1 = 0 := by rw [ho0]; rfl
  rw [← e0]
  iintro ⟨Hw, Ht, ⟨%G, Hs⟩, Hr, Hv⟩ Hk
  iapply (wp_fillLoop wB tB st lp hok ht off hoff C₁ C₂ d₁ d₂ h₁ h₂ B hB f₅ f₆ V hV (fun j hj => hlt _ (by omega)) tab htab G _) $$ [Hw Ht Hs]
  · isplitl [Hw]
    · iexact Hw
    · isplitl [Ht]
      · iexact Ht
      · iexact Hs
  iintro ⟨Hw, Ht, Hs⟩
  iapply (wp_copyOut st hst sm o ho e1 f₀ R _ ?hG k) $$ [Hs Hr Hv]
  case hG =>
    intro x y hxy
    have hx : (x 0).val < 512 := (x 0).isLt
    have h0 : (y 0).val = base i + B + (x 0).val := by rw [← e0]; exact hxy 0
    have h1 : (y 1).val = (x 1).val := (hxy 1).trans (by rw [e1, Nat.zero_add])
    rw [hR y (B + (x 0).val) (by omega) (by omega), h1]
  · isplitl [Hs]
    · iexact Hs
    · isplitl [Hr]
      · iexact Hr
      · iexact Hv
  iintro Hfl
  iapply Hk $$ Hw Ht Hfl

/-- A slot's turn: the block two before is delivered, and the block at `B` starts. -/
theorem wp_turn (hB' : B + 512 ≤ 25600) (hB₂ : 1024 ≤ B) (o : Fin 2 → ℕ) (ho : ∀ a, o a + S512x64.size a ≤ S819200x64.size a) (ho0 : o = ![base i + B, 0])
    (o' : Fin 2 → ℕ) (ho' : ∀ a, o' a + S512x64.size a ≤ S819200x64.size a)
    (O : CellTallies nD τ sig (HIx 1)) (W : Waits sig (HIx 1)) (k : PUnit → Prog (Eff F i) α) :
    iprop(Transfers.MayWaits (thr d i) (default : HIx 1) O ∗ wordPts d i wB f₅ ∗ tabPts d i tB f₆
        ∗ flying d i st sm (base i + B - 1024) R ∗ outPts d i (base i) (base i + B - 1024) R ∗ outPts d i (base i + B) (base i + 25600) f₀ ∗ owing d i O W)
      ⊢ iprop((wordPts d i wB f₅ -∗ tabPts d i tB f₆ -∗ flying d i st sm (base i + B) R
          -∗ outPts d i (base i) (base i + B - 512) R -∗ outPts d i (base i + B + 512) (base i + 25600) f₀ -∗ owing d i O W -∗ WP d i (k ⟨⟩) Q)
        -∗ WP d i (waitOut i oV st hst sm o' ho' >>= fun _ =>
            Scf.Loop.for lp hok 0#32 (fun k _ => fillBody wB tB st (colAt lanes) (off k) (hoff k) C₁ C₂ d₁ d₂ (rowsAt lanes k) h₁ h₂)
          >>= fun _ => copyOut i oV st hst sm o ho >>= k) Q) := by
  iintro ⟨Hmw, Hw, Ht, Hfl, Hd, Hr, Ho⟩ Hk
  iapply (wp_waitOut' st hst sm o' ho' (base i + B - 1024) R O W _) $$ [Hmw Hfl Ho]
  · isplitl [Hmw]
    · iexact Hmw
    · isplitl [Hfl]
      · iexact Hfl
      · iexact Ho
  iintro Hb Hs Hv Ho
  ihave Hd := (outPts_split (base i) (base i + B - 1024) (base i + B - 1024 + 512) (by omega) (by omega) R).2 $$ [Hd Hb]
  · isplitl [Hd]
    · iexact Hd
    · iexact Hb
  ihave ⟨Hr1, Hr2⟩ := (outPts_split (base i + B) (base i + B + 512) (base i + 25600) (by omega) (by omega) f₀).1 $$ Hr
  iapply (wp_fillCopy st hst sm lp hok ht off hoff C₁ C₂ d₁ d₂ h₁ h₂ B hB f₅ f₆ V hV hlt tab htab f₀ R hR hB' o ho ho0 k) $$ [Hw Ht Hs Hr1 Hv]
  · isplitl [Hw]
    · iexact Hw
    · isplitl [Ht]
      · iexact Ht
      · isplitl [Hs]
        · iexact Hs
        · isplitl [Hr1]
          · iexact Hr1
          · iexact Hv
  iintro Hw Ht Hfl
  rw [show base i + B - 1024 + 512 = base i + B - 512 by omega]
  iapply Hk $$ Hw Ht Hfl Hd Hr2 Ho

end

end Cert.Proof
-- ==== Proof.Body.lean ====
/-
  The kernel of a tile, run: it leaves, in the tile's rows of the output, the table's rows that the counts of the mask name.
-/
module

public import proofs.«01_k».proof.Proof.Turn

@[expose] public section

set_option maxRecDepth 16384

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {d : Dev nD} {i : grid0.Coords} {α : Type} {Q : α → sProp (MM F)}

/-- The output: row `n` is the table's row named by the count at word `n` of the mask. -/
def outOf (fm : S819200.Idx → BitVec 32) (ft : S1000x64.Idx → Elt F .f32) (y : S819200x64.Idx) : Elt F .f32 :=
  tabOf ft (posv (wordOf fm) (y 0).val).toNat (y 1).val

/-- Counts of a stretch of words moved by `b`. -/
theorem cnt_shift (w w' : ℕ → BitVec 32) (b lo hi : ℕ) (h : ∀ n < hi, w n = w' (b + n)) : cnt w lo hi = cnt w' (b + lo) (b + hi) := by
  unfold cnt
  rw [Nat.add_comm b lo, Nat.add_comm b hi, ← Finset.sum_Ico_add']
  refine Finset.sum_congr rfl fun n hn => ?_
  rw [h n (Finset.mem_Ico.mp hn).2, Nat.add_comm b n]

/-- A tile's words are replaced as the mask's are: a tile begins at a row's start. -/
theorem posv_shift (w w' : ℕ → BitVec 32) (i : grid0.Coords) (h : ∀ n < 25600, w n = w' (base i + n)) (n : ℕ) (hn : n < 25600) :
    posv w n = posv w' (base i + n) := by
  unfold posv
  rw [h n hn, cnt_shift w w' (base i) _ _ fun k hk => h k (by omega)]
  rw [show base i + 200 * (n / 200) = 200 * ((base i + n) / 200) by unfold base; omega, Nat.add_assoc]

/-- The blocks' places before and after the rounds. -/
theorem k0_off4_eq : ∀ i : grid0.Coords, ∀ r : Fin 4, k0_off4 i (k0_off4_at r) = ![base i + ![0, 512, 24576, 25088] r, 0] := by decide +kernel

/-- A slot, whatever it holds. -/
abbrev someSlot (d : Dev nD) (i : grid0.Coords) (st : Memref sig .scVector .vmem S512x64 .f32) : sProp (MM F) := iprop(∃ G, slotPts d i st G)

section

variable (a8 a9 s0 s1 : DmaSems sig S_)
  (f₅ : Buf (Elt F) (wB.view.loc (thr d i))) (f₆ : Buf (Elt F) (tB.view.loc (thr d i))) (V : ℕ → BitVec 32)
  (hV : ∀ n : S25616.Idx, wB.view.read (Elt F) f₅ n = V (n 0).val) (hlt : ∀ n, n < 25600 → (V n).toNat < 208)
  (tab : ℕ → ℕ → Elt F .f32) (htab : ∀ y : S208x64.Idx, tB.view.read (Elt F) f₆ y = tab (y 0).val (y 1).val)
  (f₀ R : Buf (Elt F) (oV.view.loc (thr d i)))
  (hR : ∀ (y : S819200x64.Idx) (n : ℕ), n < 25600 → (y 0).val = base i + n → R y = tab (V n).toNat (y 1).val)
  (O : CellTallies nD τ sig (HIx 1)) (W : Waits sig (HIx 1))

/-- Before round `r`: blocks `2 r` and `2 r + 1` are in flight, those before hold `R`, those after are as they were. -/
def between (r : ℕ) : sProp (MM F) :=
  iprop(Transfers.MayWaits (thr d i) (default : HIx 1) O ∗ wordPts d i wB f₅ ∗ tabPts d i tB f₆
    ∗ flying d i (slot0 sB) a8 (base i + 1024 * r) R ∗ flying d i (slot1 sB) a9 (base i + (1024 * r + 512)) R
    ∗ outPts d i (base i) (base i + 1024 * r) R ∗ outPts d i (base i + 1024 * (r + 1)) (base i + 25600) f₀ ∗ owing d i O W)

include hV hlt htab hR

/-- A round. -/
theorem wp_round (r : Fin k0_t4_loop.trips) :
    between (d := d) (i := i) a8 a9 f₅ f₆ f₀ R O W r.val
      ⊢ WP d i (round (F := F) i oV wB tB sB a8 a9 r) fun _ => between a8 a9 f₅ f₆ f₀ R O W (r.val + 1) := by
  have hr : r.val < 24 := r.isLt.trans_eq (by decide)
  unfold between round
  iintro ⟨#Hmw, Hw, Ht, Hf0, Hf1, Hd, Hr, Ho⟩
  rw [show base i + 1024 * r.val = base i + 1024 * (r.val + 1) - 1024 by omega]
  iapply (wp_turn (slot0 sB) _ a8 k0_t5_loop k0_t5_ok (by decide) (fun k => k0_off7 r k) (fun k => k0_off7_inb r k) _ _ _ _ _ _
    (1024 * (r.val + 1)) (fun k => ?h0) f₅ f₆ V hV hlt tab htab f₀ R hR (by omega) (by omega) (k0_off8 i r 0#32) (k0_off8_inb i r 0) ?h1 _ _ O W _) $$ [Hw Ht Hf0 Hd Hr Ho]
  case h0 =>
    rw [k0_off7_eq]
    show 1024 * r.val + 16 * k.val + 1024 = _
    omega
  case h1 =>
    refine (k0_off8_eq i r 0).trans ?_
    unfold base
    exact congrArg (fun n => ![n, 0]) (show 51200 * (i 1).val + 25600 * (i 0).val + 1024 * r.val + 512 * 0 + 1024 = _ by omega)
  · isplitl []
    · iexact Hmw
    · isplitl [Hw]
      · iexact Hw
      · isplitl [Ht]
        · iexact Ht
        · isplitl [Hf0]
          · iexact Hf0
          · isplitl [Hd]
            · iexact Hd
            · isplitl [Hr]
              · iexact Hr
              · iexact Ho
  iintro Hw Ht Hf0 Hd Hr Ho
  rw [show base i + (1024 * r.val + 512) = base i + (1024 * (r.val + 1) + 512) - 1024 by omega,
    show base i + 1024 * (r.val + 1) - 512 = base i + (1024 * (r.val + 1) + 512) - 1024 by omega,
    show base i + 1024 * (r.val + 1) + 512 = base i + (1024 * (r.val + 1) + 512) by omega]
  iapply (wp_turn (slot1 sB) _ a9 k0_t6_loop k0_t6_ok (by decide) (fun k => k0_off9 r k) (fun k => k0_off9_inb r k) _ _ _ _ _ _
    (1024 * (r.val + 1) + 512) (fun k => ?h2) f₅ f₆ V hV hlt tab htab f₀ R hR (by omega) (by omega) (k0_off8 i r 1#32) (k0_off8_inb i r 1) ?h3 _ _ O W _)
    $$ [Hw Ht Hf1 Hd Hr Ho]
  case h2 =>
    rw [k0_off9_eq]
    show 1024 * r.val + 16 * k.val + 1536 = _
    omega
  case h3 =>
    refine (k0_off8_eq i r 1).trans ?_
    unfold base
    exact congrArg (fun n => ![n, 0]) (show 51200 * (i 1).val + 25600 * (i 0).val + 1024 * r.val + 512 * 1 + 1024 = _ by omega)
  · isplitl []
    · iexact Hmw
    · isplitl [Hw]
      · iexact Hw
      · isplitl [Ht]
        · iexact Ht
        · isplitl [Hf1]
          · iexact Hf1
          · isplitl [Hd]
            · iexact Hd
            · isplitl [Hr]
              · iexact Hr
              · iexact Ho
  iintro Hw Ht Hf1 Hd Hr Ho
  iapply WP_pure
  rw [show base i + (1024 * (r.val + 1) + 512) - 512 = base i + 1024 * (r.val + 1) by omega,
    show base i + (1024 * (r.val + 1) + 512) + 512 = base i + 1024 * (r.val + 1 + 1) by omega]
  isplitl []
  · iexact Hmw
  · isplitl [Hw]
    · iexact Hw
    · isplitl [Ht]
      · iexact Ht
      · isplitl [Hf0]
        · iexact Hf0
        · isplitl [Hf1]
          · iexact Hf1
          · isplitl [Hd]
            · iexact Hd
            · isplitl [Hr]
              · iexact Hr
              · iexact Ho

end

end Cert.Proof
-- ==== Proof.Flat.lean ====
/-
  The kernel of a tile, whole.
-/
module

public import proofs.«01_k».proof.Proof.Body

@[expose] public section

set_option maxRecDepth 16384

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] {d : Dev nD} {i : grid0.Coords}
  (a8 a9 s0 s1 : DmaSems sig S_) (O : CellTallies nD τ sig (HIx 1)) (W : Waits sig (HIx 1)) {α : Type} {Q : α → sProp (MM F)}

/-- The fills, the copies out and the waits, once the words are replaced. -/
def tail (i : grid0.Coords) (a8 a9 : DmaSems sig S_) : Prog (Eff F i) PUnit := do
  let _ ← Scf.Loop.for k0_t2_loop k0_t2_ok 0#32 fun k _ => fill2 (F := F) i wB tB sB lanes k
  copyOut i oV (slot0 sB) ((View.wordExact_bits rfl).reshape _ _) a8 (k0_off4 i 0#32) (k0_off4_inb i 0)
  let _ ← Scf.Loop.for k0_t3_loop k0_t3_ok 0#32 fun k _ => fill3 (F := F) i wB tB sB lanes k
  copyOut i oV (slot1 sB) ((View.wordExact_bits rfl).reshape _ _) a9 (k0_off4 i 512#32) (k0_off4_inb i 1)
  let _ ← Scf.Loop.for k0_t4_loop k0_t4_ok 0#32 fun r _ => round (F := F) i oV wB tB sB a8 a9 r
  waitOut i oV (slot0 sB) ((View.wordExact_bits rfl).reshape _ _) a8 (k0_off4 i 24576#32) (k0_off4_inb i 2)
  waitOut i oV (slot1 sB) ((View.wordExact_bits rfl).reshape _ _) a9 (k0_off4 i 25088#32) (k0_off4_inb i 3)
  pure ⟨⟩

/-- The fills, the copies out and the waits leave the tile's rows holding `R`. -/
theorem wp_tail (f₅ : Buf (Elt F) (wB.view.loc (thr d i))) (f₆ : Buf (Elt F) (tB.view.loc (thr d i))) (V : ℕ → BitVec 32)
    (hV : ∀ n : S25616.Idx, wB.view.read (Elt F) f₅ n = V (n 0).val) (hlt : ∀ n, n < 25600 → (V n).toNat < 208)
    (tab : ℕ → ℕ → Elt F .f32) (htab : ∀ y : S208x64.Idx, tB.view.read (Elt F) f₆ y = tab (y 0).val (y 1).val)
    (f₀ R : Buf (Elt F) (oV.view.loc (thr d i)))
    (hR : ∀ (y : S819200x64.Idx) (n : ℕ), n < 25600 → (y 0).val = base i + n → R y = tab (V n).toNat (y 1).val) (k : PUnit → Prog (Eff F i) α) :
    iprop(Transfers.MayWaits (thr d i) (default : HIx 1) O ∗ wordPts d i wB f₅ ∗ tabPts d i tB f₆ ∗ someSlot d i (slot0 sB) ∗ someSlot d i (slot1 sB)
        ∗ outPts d i (base i) (base i + 25600) f₀ ∗ semVal (thr d i, SemLoc.dma a8.sem) 0 ∗ semVal (thr d i, SemLoc.dma a9.sem) 0 ∗ owing d i O W)
      ⊢ iprop((wordPts d i wB f₅ -∗ tabPts d i tB f₆ -∗ someSlot d i (slot0 sB) -∗ someSlot d i (slot1 sB)
          -∗ outPts d i (base i) (base i + 25600) R -∗ semVal (thr d i, SemLoc.dma a8.sem) 0 -∗ semVal (thr d i, SemLoc.dma a9.sem) 0
          -∗ owing d i O W -∗ WP d i (k ⟨⟩) Q)
        -∗ WP d i (tail (F := F) i a8 a9 >>= k) Q) := by
  unfold tail
  simp only [bind_assoc]
  iintro ⟨#Hmw, Hw, Ht, Hs0, Hs1, Hr, Hv8, Hv9, Ho⟩ Hk
  ihave ⟨Hr0, Hr⟩ := (outPts_split (base i) (base i + 0 + 512) (base i + 25600) (by omega) (by omega) f₀).1 $$ Hr
  iapply (wp_fillCopy (slot0 sB) _ a8 k0_t2_loop k0_t2_ok (by decide) (fun k => k0_off3 k) (fun k => k0_off3_inb k) _ _ _ _ _ _
    0 (fun k => ?h0) f₅ f₆ V hV hlt tab htab f₀ R hR (by omega) _ (k0_off4_inb i 0) (k0_off4_eq i 0) _) $$ [Hw Ht Hs0 Hr0 Hv8]
  case h0 => rw [k0_off3_eq]; show 16 * k.val = _; omega
  · isplitl [Hw]
    · iexact Hw
    · isplitl [Ht]
      · iexact Ht
      · isplitl [Hs0]
        · iexact Hs0
        · isplitl [Hr0]
          · iexact Hr0
          · iexact Hv8
  iintro Hw Ht Hf0
  ihave ⟨Hr1, Hr⟩ := (outPts_split (base i + 0 + 512) (base i + 512 + 512) (base i + 25600) (by omega) (by omega) f₀).1 $$ Hr
  iapply (wp_fillCopy (slot1 sB) _ a9 k0_t3_loop k0_t3_ok (by decide) (fun k => k0_off5 k) (fun k => k0_off5_inb k) _ _ _ _ _ _
    512 (fun k => ?h1) f₅ f₆ V hV hlt tab htab f₀ R hR (by omega) _ (k0_off4_inb i 1) (k0_off4_eq i 1) _) $$ [Hw Ht Hs1 Hr1 Hv9]
  case h1 => rw [k0_off5_eq]; show 16 * k.val + 512 = _; omega
  · isplitl [Hw]
    · iexact Hw
    · isplitl [Ht]
      · iexact Ht
      · isplitl [Hs1]
        · iexact Hs1
        · isplitl [Hr1]
          · iexact Hr1
          · iexact Hv9
  iintro Hw Ht Hf1
  iapply (Scf.wp_for_bind frame (wpE defs₀ 𝒱₀ (thr d i) none) Set.univ k0_t4_loop.lb k0_t4_loop.ub k0_t4_loop.st k0_t4_ok 0#32
    (fun r _ => round (F := F) i oV wB tB sB a8 a9 r) (fun r _ => between (d := d) (i := i) a8 a9 f₅ f₆ f₀ R O W r)
    (fun r _ => wp_round a8 a9 f₅ f₆ V hV hlt tab htab f₀ R hR O W r)) $$ [Hw Ht Hf0 Hf1 Hr Ho]
  · unfold between
    isplitl []
    · iexact Hmw
    · isplitl [Hw]
      · iexact Hw
      · isplitl [Ht]
        · iexact Ht
        · isplitl [Hf0]
          · iexact Hf0
          · isplitl [Hf1]
            · iexact Hf1
            · isplitl []
              · rw [show base i + 1024 * 0 = base i from rfl, outPts_nil]
                iempintro
              · isplitl [Hr]
                · iexact Hr
                · iexact Ho
  iintro %acc HI
  rw [show Scf.trips k0_t4_loop.lb k0_t4_loop.ub k0_t4_loop.st = 24 by decide]
  unfold between
  icases HI with ⟨-, Hw, Ht, Hf0, Hf1, Hd, Hr, Ho⟩
  iapply (wp_waitOut' (slot0 sB) ((View.wordExact_bits rfl).reshape _ _) a8 _ (k0_off4_inb i 2) (base i + 1024 * 24) R O W _) $$ [Hf0 Ho]
  · isplitl []
    · iexact Hmw
    · isplitl [Hf0]
      · iexact Hf0
      · iexact Ho
  iintro Hb0 Hs0 Hv8 Ho
  iapply (wp_waitOut' (slot1 sB) ((View.wordExact_bits rfl).reshape _ _) a9 _ (k0_off4_inb i 3) (base i + (1024 * 24 + 512)) R O W _) $$ [Hf1 Ho]
  · isplitl []
    · iexact Hmw
    · isplitl [Hf1]
      · iexact Hf1
      · iexact Ho
  iintro Hb1 Hs1 Hv9 Ho
  ihave Hd := (outPts_split (base i) (base i + 1024 * 24) (base i + 1024 * 24 + 512) (by omega) (by omega) R).2 $$ [Hd Hb0]
  · isplitl [Hd]
    · iexact Hd
    · iexact Hb0
  ihave Hd := (outPts_split (base i) (base i + (1024 * 24 + 512)) (base i + (1024 * 24 + 512) + 512) (by omega) (by omega) R).2 $$ [Hd Hb1]
  · isplitl [Hd]
    · iexact Hd
    · iexact Hb1
  rw [pure_bind]
  iapply Hk $$ Hw Ht Hs0 Hs1 Hd Hv8 Hv9 Ho

/-- The kernel of a tile leaves the tile's rows of the output holding the output's values, and the rest as it was. -/
theorem wp_flat (q : PosShare TreeShare) (fm : Buf (Elt F) (mV.view.loc (thr d i))) (ft : Buf (Elt F) (tV.view.loc (thr d i)))
    (f₅ : Buf (Elt F) (wB.view.loc (thr d i))) (f₆ : Buf (Elt F) (tB.view.loc (thr d i))) (f₀ : Buf (Elt F) (oV.view.loc (thr d i))) :
    iprop(Transfers.MayWaits (thr d i) (default : HIx 1) O ∗ owes (thr d i) O W
        ∗ semVal (thr d i, SemLoc.dma s0.sem) 0 ∗ semVal (thr d i, SemLoc.dma s1.sem) 0
        ∗ semVal (thr d i, SemLoc.dma a8.sem) 0 ∗ semVal (thr d i, SemLoc.dma a9.sem) 0
        ∗ maskPts d i fm ∗ tblPts d i q ft ∗ wordPts d i wB f₅ ∗ tabPts d i tB f₆
        ∗ someSlot d i (slot0 sB) ∗ someSlot d i (slot1 sB) ∗ outPts d i (base i) (base i + 25600) f₀)
      ⊢ WP d i (flat (F := F) i mV tV oV wB tB (Memref.isWhole_whole _) sB a8 a9 s0 s1) fun _ => iprop(owing d i O W
        ∗ semVal (thr d i, SemLoc.dma s0.sem) 0 ∗ semVal (thr d i, SemLoc.dma s1.sem) 0
        ∗ semVal (thr d i, SemLoc.dma a8.sem) 0 ∗ semVal (thr d i, SemLoc.dma a9.sem) 0
        ∗ maskPts d i fm ∗ tblPts d i q ft ∗ (∃ f₅, wordPts d i wB f₅) ∗ (∃ f₆, tabPts d i tB f₆)
        ∗ someSlot d i (slot0 sB) ∗ someSlot d i (slot1 sB) ∗ outPts d i (base i) (base i + 25600) (outOf fm ft)) := by
  have e : flat (F := F) i mV tV oV wB tB (Memref.isWhole_whole _) sB a8 a9 s0 s1
      = (copiesIn (F := F) i mV tV wB tB (Memref.isWhole_whole _) s0 s1 >>= fun _ =>
        Scf.Loop.for k0_t1_loop k0_t1_ok 0#32 (fun k _ => rowBody (F := F) wB (chunkOff k) (chunkOff_inb k)) >>= fun _ => tail (F := F) i a8 a9 >>= pure) := by
    rw [bind_pure]
    rfl
  rw [e]
  iintro ⟨#Hmw, Ho, Hv0, Hv1, Hv8, Hv9, Hm, Htb, Hw, Hb, Hs0, Hs1, Hr⟩
  iapply (wp_copiesIn s0 s1 q fm ft f₅ f₆ O W _) $$ [Ho Hv0 Hv1 Hm Htb Hw Hb]
  · isplitl []
    · iexact Hmw
    · isplitl [Ho]
      · iexact Ho
      · isplitl [Hv0]
        · iexact Hv0
        · isplitl [Hv1]
          · iexact Hv1
          · isplitl [Hm]
            · iexact Hm
            · isplitl [Htb]
              · iexact Htb
              · isplitl [Hw]
                · iexact Hw
                · iexact Hb
  iintro Ho Hv0 Hv1 Hm Htb ⟨%w, Hw, %hw⟩ ⟨%g₆, Hb, %hb⟩
  iapply (wp_rows wB w _) $$ Hw
  iintro Hw
  unfold wordsAre
  icases Hw with ⟨%g₅, Hw, %hg⟩
  iapply (wp_tail a8 a9 O W g₅ g₆ (swept w 25600) hg (fun n hn => ?hlt) (tabOf ft) hb f₀ (outOf fm ft) (fun y n hn hy => ?hR) pure) $$ [Hw Hb Hs0 Hs1 Hr Hv8 Hv9 Ho]
  case hlt => rw [swept, if_pos hn]; exact posv_lt w n
  case hR =>
    rw [swept, if_pos hn, posv_shift w (wordOf fm) i hw n hn, ← hy]
    rfl
  · isplitl []
    · iexact Hmw
    · isplitl [Hw]
      · iexact Hw
      · isplitl [Hb]
        · iexact Hb
        · isplitl [Hs0]
          · iexact Hs0
          · isplitl [Hs1]
            · iexact Hs1
            · isplitl [Hr]
              · iexact Hr
              · isplitl [Hv8]
                · iexact Hv8
                · isplitl [Hv9]
                  · iexact Hv9
                  · unfold owing
                    iexists _
                    isplitl []
                    rotate_left
                    · iexact Ho
                    · ipureintro
                      intro p hp
                      rcases Finset.mem_insert.mp hp with rfl | hp
                      · exact Or.inr rfl
                      rcases Finset.mem_insert.mp hp with rfl | hp
                      · exact Or.inr rfl
                      · exact Or.inl hp
  iintro Hw Hb Hs0 Hs1 Hr Hv8 Hv9 Ho
  iapply WP_pure
  isplitl [Ho]
  · iexact Ho
  isplitl [Hv0]
  · iexact Hv0
  isplitl [Hv1]
  · iexact Hv1
  isplitl [Hv8]
  · iexact Hv8
  isplitl [Hv9]
  · iexact Hv9
  isplitl [Hm]
  · iexact Hm
  isplitl [Htb]
  · iexact Htb
  isplitl [Hw]
  · iexists g₅
    iexact Hw
  isplitl [Hb]
  · iexists g₆
    iexact Hb
  isplitl [Hs0]
  · iexact Hs0
  isplitl [Hs1]
  · iexact Hs1
  · iexact Hr

end Cert.Proof
-- ==== Proof.Tile.lean ====
/-
  A tile's task: what it is handed, and what it hands back, as the launch states it.
-/
module

public import proofs.«01_k».proof.Proof.Flat

@[expose] public section

set_option maxRecDepth 16384

noncomputable section

namespace Cert.Proof

open Cert.KernelIdeal Cert.KernelIdeal.Gen
open Idealize.ShloMosaic
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD) (i : grid0.Coords)

/-- The tile's semaphore `k`. -/
abbrev cell (k : DmaSems sig S_) : GSem nD τ sig := (thr d i, SemLoc.dma k.sem)

theorem cell_ne (k k' : DmaSems sig S_) (h : (SemLoc.dma k.sem : SemLoc sig) ≠ SemLoc.dma k'.sem) : cell d i k ≠ cell d i k' := fun e =>
  h (congrArg Prod.snd e)

/-- The tile's own semaphores: the kernel's four, and the rest. -/
theorem ownSems0_split : (ownSems0 (thr d i) : sProp (MM F))
    = iprop(semVal (cell d i cc0_scoped0) 0 ∗ semVal (cell d i cc0_scoped1) 0 ∗ semVal (cell d i cc0_scratch3) 0 ∗ semVal (cell d i cc0_scratch4) 0
      ∗ bigSep (((((ownCells (thr d i)).erase (cell d i cc0_scoped0)).erase (cell d i cc0_scoped1)).erase (cell d i cc0_scratch3)).erase
          (cell d i cc0_scratch4)) fun g => semVal g 0) := by
  have mem (k : DmaSems sig S_) (h : (SemLoc.dma k.sem : SemLoc sig).isScoped .scVector = true) : cell d i k ∈ ownCells (thr d i) :=
    mem_ownCells.mpr ⟨rfl, h⟩
  have h1 := mem cc0_scoped0 (by decide)
  have h2 := Finset.mem_erase.mpr ⟨cell_ne d i cc0_scoped1 cc0_scoped0 (by decide), mem cc0_scoped1 (by decide)⟩
  have h3 := Finset.mem_erase.mpr ⟨cell_ne d i cc0_scratch3 cc0_scoped1 (by decide),
    Finset.mem_erase.mpr ⟨cell_ne d i cc0_scratch3 cc0_scoped0 (by decide), mem cc0_scratch3 (by decide)⟩⟩
  have h4 := Finset.mem_erase.mpr ⟨cell_ne d i cc0_scratch4 cc0_scratch3 (by decide), Finset.mem_erase.mpr ⟨cell_ne d i cc0_scratch4 cc0_scoped1 (by decide),
    Finset.mem_erase.mpr ⟨cell_ne d i cc0_scratch4 cc0_scoped0 (by decide), mem cc0_scratch4 (by decide)⟩⟩⟩
  unfold SparseCore.Cfg.ownSems0
  rw [SparseCore.bigSep_erase' h1, SparseCore.bigSep_erase' h2, SparseCore.bigSep_erase' h3, SparseCore.bigSep_erase' h4]

/-- The tile's buffer `b`, as one of its device's. -/
abbrev tileRef (b : Ref sig .scVector) : DevRef τ sig := (thr d i).2.devRef b

/-- The tile's own buffers: the kernel's three, and the rest. -/
theorem ownBufs_split : (ownBufs (thr d i) : sProp (MM F))
    = iprop((∃ f, (thr d i).loc cc0_scratch0 ↦{fullShare} f) ∗ (∃ f, (thr d i).loc cc0_scratch1 ↦{fullShare} f) ∗ (∃ f, (thr d i).loc cc0_scratch2 ↦{fullShare} f)
      ∗ bigSep ((((ownRefs (τ := τ) (thr d i).2).erase (tileRef d i cc0_scratch0)).erase (tileRef d i cc0_scratch1)).erase (tileRef d i cc0_scratch2))
          fun b => iprop(∃ f, ((d, b) : Loc nD τ sig) ↦{fullShare} f)) := by
  have ne (b b' : Ref sig .scVector) (h : b ≠ b') : tileRef d i b ≠ tileRef d i b' := fun e => h (Proc.devRef_injective _ e)
  have h1 : tileRef d i cc0_scratch0 ∈ ownRefs (τ := τ) (thr d i).2 := SparseCore.Cfg.mem_ownRefs_of_owner rfl
  have h2 : tileRef d i cc0_scratch1 ∈ (ownRefs (τ := τ) (thr d i).2).erase (tileRef d i cc0_scratch0) :=
    Finset.mem_erase.mpr ⟨ne cc0_scratch1 cc0_scratch0 (by decide), SparseCore.Cfg.mem_ownRefs_of_owner rfl⟩
  have h3 : tileRef d i cc0_scratch2 ∈ ((ownRefs (τ := τ) (thr d i).2).erase (tileRef d i cc0_scratch0)).erase (tileRef d i cc0_scratch1) :=
    Finset.mem_erase.mpr ⟨ne cc0_scratch2 cc0_scratch1 (by decide),
      Finset.mem_erase.mpr ⟨ne cc0_scratch2 cc0_scratch0 (by decide), SparseCore.Cfg.mem_ownRefs_of_owner rfl⟩⟩
  unfold SparseCore.Cfg.ownBufs
  refine (SparseCore.bigSep_erase' h1).trans ?_
  rw [SparseCore.bigSep_erase' h2, SparseCore.bigSep_erase' h3]

/-- A slot is the half of the two-slot buffer its first coordinate names. -/
theorem slot_set (o : Fin 3 → ℕ) (h : ∀ a, o a + S1x512x64.size a ≤ S2x512x64.size a) (h1 : o 1 = 0) (h2 : o 2 = 0) :
    (slot sB o h).view.set = Finset.univ.filter fun j : S2x512x64.Idx => (j 0).val = o 0 := by
  change ((sB.view.slice (Rect.unit (s := S2x512x64) o S1x512x64.size h)).reshape S512x64 squeezes_S1x512x64_S512x64.numel_eq).set = _
  rw [View.set_reshape, View.set_slice_whole]
  ext j
  rw [Rect.mem_set_unit, Finset.mem_filter]
  constructor
  · intro hh
    have : o 0 ≤ (j 0).val ∧ (j 0).val < o 0 + 1 := hh 0
    exact ⟨Finset.mem_univ _, by omega⟩
  · rintro ⟨-, hh⟩ a
    match a with
    | 0 => exact ⟨hh.ge, by show (j 0).val < o 0 + 1; omega⟩
    | 1 => exact ⟨by rw [h1]; exact Nat.zero_le _, by rw [h1]; have : (j 1).val < 512 := (j 1).isLt; show _ < 0 + 512; omega⟩
    | 2 => exact ⟨by rw [h2]; exact Nat.zero_le _, by rw [h2]; have : (j 2).val < 64 := (j 2).isLt; show _ < 0 + 64; omega⟩

theorem slots_disjoint : Disjoint (slot0 sB).view.set (slot1 sB).view.set := by
  rw [slot_set _ _ rfl rfl, slot_set _ _ rfl rfl]
  refine Finset.disjoint_left.mpr fun j h h' => ?_
  have h : (j 0).val = 0 := (Finset.mem_filter.mp h).2
  have h' : (j 0).val = 1 := (Finset.mem_filter.mp h').2
  omega

theorem slots_cover : (slot0 sB).view.set ∪ (slot1 sB).view.set = (Finset.univ : Finset S2x512x64.Idx) := by
  rw [slot_set _ _ rfl rfl, slot_set _ _ rfl rfl]
  ext j
  have h : (j 0).val < 2 := (j 0).isLt
  rw [Finset.mem_union, Finset.mem_filter, Finset.mem_filter]
  simp only [Finset.mem_univ, true_and, iff_true]
  show (j 0).val = 0 ∨ (j 0).val = 1
  omega

/-- The two-slot buffer is its two slots. -/
theorem slots_split : iprop(∃ f, (thr d i).loc cc0_scratch2 ↦{fullShare} f) ⊢ (iprop(someSlot d i (slot0 sB) ∗ someSlot d i (slot1 sB)) : sProp (MM F)) := by
  iintro ⟨%f, H⟩
  ihave ⟨H0, H1⟩ := (show ((thr d i).loc cc0_scratch2 ↦{fullShare} f : sProp (MM F))
      ⊢ iprop(((slot0 sB).view.loc (thr d i) ↦[(slot0 sB).view.set]{fullShare} f) ∗ (slot1 sB).view.loc (thr d i) ↦[(slot1 sB).view.set]{fullShare} f)
      from by
        have := (pointsTo_union (ℓ := (thr d i).loc cc0_scratch2) (q := fullShare) (f := f) (Val := Elt F) (Ix := HIx 1) (Name := ℕ) (U := UU) (Lvl := ℕ) slots_disjoint).1
        rw [slots_cover] at this
        exact this) $$ H
  isplitl [H0]
  · iexists _
    unfold slotPts
    iexists f
    isplitl [H0]
    · iexact H0
    · ipureintro; rfl
  · iexists _
    unfold slotPts
    iexists f
    isplitl [H1]
    · iexact H1
    · ipureintro; rfl

/-- The two slots are the two-slot buffer. -/
theorem slots_join : (iprop(someSlot d i (slot0 sB) ∗ someSlot d i (slot1 sB)) : sProp (MM F)) ⊢ iprop(∃ f, (thr d i).loc cc0_scratch2 ↦{fullShare} f) := by
  unfold someSlot slotPts
  iintro ⟨⟨%G, %f, H0, -⟩, ⟨%G', %g, H1, -⟩⟩
  iexists (slot1 sB).view.set.piecewise g f
  iapply (show iprop(((slot0 sB).view.loc (thr d i) ↦[(slot0 sB).view.set]{fullShare} f) ∗ (slot1 sB).view.loc (thr d i) ↦[(slot1 sB).view.set]{fullShare} g)
      ⊢ ((thr d i).loc cc0_scratch2 ↦{fullShare} (slot1 sB).view.set.piecewise g f : sProp (MM F))
      from by
        have := pointsTo_join (ℓ := (thr d i).loc cc0_scratch2) (q := fullShare) (f := f) (g := g) (Val := Elt F) (Ix := HIx 1) (Name := ℕ) (U := UU) (Lvl := ℕ) slots_disjoint
        rw [slots_cover] at this
        exact this)
  isplitl [H0]
  · iexact H0
  · iexact H1

/-- What a tile's task needs: its part of the mask, a share of the table, its rows of the output. -/
abbrev goPts (q : PosShare TreeShare) (fm : S819200.Idx → BitVec 32) (ft : S1000x64.Idx → Elt F .f32) (f₀ : S819200x64.Idx → Elt F .f32) : sProp (MM F) :=
  iprop(maskPts d i fm ∗ tblPts d i q ft ∗ outPts d i (base i) (base i + 25600) f₀)

/-- The task of a tile leaves its rows of the output at the output's values. -/
theorem tile_body (hF : (K (F := F)).Facts) (O : CellTallies nD τ sig (HIx 1)) (W : Waits sig (HIx 1)) (hO : ∀ g, O g none = 0) (q : PosShare TreeShare)
    (fm : S819200.Idx → BitVec 32) (ft : S1000x64.Idx → Elt F .f32) (f₀ : S819200x64.Idx → Elt F .f32) :
    iprop(levAts (K (F := F)).L (K (F := F)).lev ∗ emp ∗ goPts d i q fm ft f₀ ∗ scopedBufs (thr d i) ∗ scopedSems0 (thr d i) ∗ owes (thr d i) O W)
      ⊢ wp frame (wpE (defs₀ (F := F)) 𝒱₀ (thr d i) none) Set.univ
          (cc0__body i mV (Memref.isWhole_whole _) tV (Memref.isWhole_whole _) oV (Memref.isWhole_whole _) wB (Memref.isWhole_whole _) tB (Memref.isWhole_whole _)
            sB (Memref.isWhole_whole _) cc0_scratch3 cc0_scratch4 cc0_scoped0 cc0_scoped1)
          fun _ => iprop(goPts d i q fm ft (outOf fm ft) ∗ scopedBufs (thr d i) ∗ scopedSems0 (thr d i)
            ∗ ∃ W', ⌜∀ p ∈ W', p ∈ W ∨ p.2 = none ∨ p.2 = some (0 : Fin 1)⌝ ∗ owes (thr d i) O W') := by
  rw [(K (F := F)).scopedBufs_V hF d _ _, SparseCore.Cfg.scopedSems0_V (Val := Elt F) d _ _, ownSems0_split, ownBufs_split, body_eq]
  iintro ⟨Hlv, -, ⟨Hm, Htb, Hr⟩, ⟨⟨%f₅, Hw⟩, ⟨%f₆, Hb⟩, Hs, Hbufs⟩, ⟨Hv0, Hv1, Hv8, Hv9, Hsems⟩, HO⟩
  ihave Hmw := (show (levAts (K (F := F)).L (K (F := F)).lev : sProp (MM F)) ⊢ Transfers.MayWaits (thr d i) (default : HIx 1) O
    from (K (F := F)).mayWaits_none (thr := thr d i) hO) $$ Hlv
  ihave ⟨Hs0, Hs1⟩ := (slots_split d i) $$ Hs
  ihave Hwp := (wp_flat cc0_scratch3 cc0_scratch4 cc0_scoped0 cc0_scoped1 O W q fm ft f₅ f₆ f₀) $$ [Hmw HO Hv0 Hv1 Hv8 Hv9 Hm Htb Hw Hb Hs0 Hs1 Hr]
  · isplitl [Hmw]
    · iexact Hmw
    isplitl [HO]
    · iexact HO
    isplitl [Hv0]
    · iexact Hv0
    isplitl [Hv1]
    · iexact Hv1
    isplitl [Hv8]
    · iexact Hv8
    isplitl [Hv9]
    · iexact Hv9
    isplitl [Hm]
    · iexact Hm
    isplitl [Htb]
    · iexact Htb
    isplitl [Hw]
    · iexact Hw
    isplitl [Hb]
    · iexact Hb
    isplitl [Hs0]
    · iexact Hs0
    isplitl [Hs1]
    · iexact Hs1
    · iexact Hr
  iapply (wp_wand frame _ _) $$ Hwp
  iintro %_ ⟨HO, Hv0, Hv1, Hv8, Hv9, Hm, Htb, ⟨%g₅, Hw⟩, ⟨%g₆, Hb⟩, Hs0, Hs1, Hr⟩
  unfold owing
  icases HO with ⟨%W', %hW, HO⟩
  ihave Hs := (slots_join d i) $$ [Hs0 Hs1]
  · isplitl [Hs0] <;> iassumption
  isplitl [Hm Htb Hr]
  · isplitl [Hm]
    · iexact Hm
    isplitl [Htb]
    · iexact Htb
    · iexact Hr
  isplitl [Hw Hb Hs Hbufs]
  · isplitl [Hw]
    · iexists g₅
      iexact Hw
    isplitl [Hb]
    · iexists g₆
      iexact Hb
    isplitl [Hs]
    · iexact Hs
    · iexact Hbufs
  isplitl [Hv0 Hv1 Hv8 Hv9 Hsems]
  · isplitl [Hv0]
    · iexact Hv0
    isplitl [Hv1]
    · iexact Hv1
    isplitl [Hv8]
    · iexact Hv8
    isplitl [Hv9]
    · iexact Hv9
    · iexact Hsems
  iexists W'
  isplitl []
  · ipureintro
    exact fun p hp => (hW p hp).imp_right Or.inl
  · iexact HO

end Cert.Proof
-- ==== Proof.Deal.lean ====
/-
  The arrays of the call, dealt to the tiles: the mask and the output by the tiles' rows, the table by shares.
-/
module

public import proofs.«01_k».proof.Proof.Tile

@[expose] public section

set_option maxRecDepth 16384

noncomputable section

namespace Cert.Proof

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] (d : Dev nD)

/-- The grid point of SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

abbrev tileAt (c : Fin 2) (s : Fin 16) : grid0.Coords := coordsV c s

theorem base_tileAt (c : Fin 2) (s : Fin 16) : base (tileAt c s) = 51200 * s.val + 25600 * c.val := rfl

abbrev mLoc : Loc nD τ sig := (SparseCore.T d).loc main_v0
abbrev tLoc : Loc nD τ sig := (SparseCore.T d).loc main_arg1
abbrev oLoc : Loc nD τ sig := (SparseCore.T d).loc main_v1

/-- Two tiles whose ranges meet are one. -/
theorem tile_unique {n : ℕ} {p p' : Fin 2 × Fin 16} (h : base (tileAt p.1 p.2) ≤ n ∧ n < base (tileAt p.1 p.2) + 25600)
    (h' : base (tileAt p'.1 p'.2) ≤ n ∧ n < base (tileAt p'.1 p'.2) + 25600) : p = p' := by
  rw [base_tileAt] at h h'
  obtain ⟨⟨c, hc⟩, ⟨s, hs⟩⟩ := p
  obtain ⟨⟨c', hc'⟩, ⟨s', hs'⟩⟩ := p'
  simp only at h h'
  have e1 : s = s' := by omega
  have e2 : c = c' := by omega
  subst e1 e2
  rfl

/-- Every row is some tile's. -/
theorem tile_exists {n : ℕ} (hn : n < 819200) : ∃ p : Fin 2 × Fin 16, base (tileAt p.1 p.2) ≤ n ∧ n < base (tileAt p.1 p.2) + 25600 := by
  refine ⟨(⟨n % 51200 / 25600, by omega⟩, ⟨n / 51200, by omega⟩), ?_⟩
  rw [base_tileAt]
  simp only
  omega

/-- The tiles' words are the mask's. -/
theorem words_cover : (Finset.univ : Finset (Fin 2 × Fin 16)).biUnion (fun p => wordsIn (base (tileAt p.1 p.2)) (base (tileAt p.1 p.2) + 25600)) = Finset.univ := by
  ext j
  have hj : (j 0).val < 819200 := (j 0).isLt
  obtain ⟨p, hp⟩ := tile_exists hj
  simp only [Finset.mem_univ, iff_true]
  exact Finset.mem_biUnion.mpr ⟨p, Finset.mem_univ _, Finset.mem_filter.mpr ⟨Finset.mem_univ _, hp⟩⟩

theorem words_disjoint : ∀ p ∈ (Finset.univ : Finset (Fin 2 × Fin 16)), ∀ p' ∈ (Finset.univ : Finset (Fin 2 × Fin 16)), p ≠ p' →
    Disjoint (wordsIn (base (tileAt p.1 p.2)) (base (tileAt p.1 p.2) + 25600)) (wordsIn (base (tileAt p'.1 p'.2)) (base (tileAt p'.1 p'.2) + 25600)) :=
  fun _ _ _ _ hne => Finset.disjoint_left.mpr fun _ h h' => hne (tile_unique (Finset.mem_filter.mp h).2 (Finset.mem_filter.mp h').2)

/-- The tiles' rows are the output's. -/
theorem rows_cover : (Finset.univ : Finset (Fin 2 × Fin 16)).biUnion (fun p => rowsIn (base (tileAt p.1 p.2)) (base (tileAt p.1 p.2) + 25600)) = Finset.univ := by
  ext j
  have hj : (j 0).val < 819200 := (j 0).isLt
  obtain ⟨p, hp⟩ := tile_exists hj
  simp only [Finset.mem_univ, iff_true]
  exact Finset.mem_biUnion.mpr ⟨p, Finset.mem_univ _, mem_rowsIn.mpr hp⟩

theorem rows_disjoint : ∀ p ∈ (Finset.univ : Finset (Fin 2 × Fin 16)), ∀ p' ∈ (Finset.univ : Finset (Fin 2 × Fin 16)), p ≠ p' →
    Disjoint (rowsIn (base (tileAt p.1 p.2)) (base (tileAt p.1 p.2) + 25600)) (rowsIn (base (tileAt p'.1 p'.2)) (base (tileAt p'.1 p'.2) + 25600)) :=
  fun _ _ _ _ hne => Finset.disjoint_left.mpr fun _ h h' => hne (tile_unique (mem_rowsIn.mp h) (mem_rowsIn.mp h'))

/-- The share of the table that SparseCore `c`'s tile `s` reads through. -/
def shareAt (c : Fin 2) (s : Fin 16) : PosShare TreeShare :=
  Transfers.dealOf (Transfers.dealOf fullShare (Finset.univ : Finset (Fin 2)) c) (Finset.univ : Finset (Fin 16)) s

theorem mask_deal (fm : Buf (Elt F) (mLoc d)) : (mLoc d ↦{fullShare} fm : sProp (MM F))
    = bigSep Finset.univ fun c : Fin 2 => bigSep Finset.univ fun s : Fin 16 => maskPts d (tileAt c s) fm := by
  have h := pointsTo_biUnion (ℓ := mLoc d) (q := fullShare) (f := fm) (Val := Elt F) (Ix := HIx 1) (Name := ℕ) (U := UU) (Lvl := ℕ)
    (Finset.univ : Finset (Fin 2 × Fin 16)) (fun p => wordsIn (base (tileAt p.1 p.2)) (base (tileAt p.1 p.2) + 25600)) words_disjoint
  rw [words_cover] at h
  exact h.trans (bigSep_univ_prod _)

theorem out_deal (f : Buf (Elt F) (oLoc d)) : (oLoc d ↦{fullShare} f : sProp (MM F))
    = bigSep Finset.univ fun c : Fin 2 => bigSep Finset.univ fun s : Fin 16 => outPts d (tileAt c s) (base (tileAt c s)) (base (tileAt c s) + 25600) f := by
  have h := pointsTo_biUnion (ℓ := oLoc d) (q := fullShare) (f := f) (Val := Elt F) (Ix := HIx 1) (Name := ℕ) (U := UU) (Lvl := ℕ)
    (Finset.univ : Finset (Fin 2 × Fin 16)) (fun p => rowsIn (base (tileAt p.1 p.2)) (base (tileAt p.1 p.2) + 25600)) rows_disjoint
  rw [rows_cover] at h
  exact h.trans (bigSep_univ_prod _)

theorem table_deal (ft : Buf (Elt F) (tLoc d)) : (tLoc d ↦{fullShare} ft : sProp (MM F))
    = bigSep Finset.univ fun c : Fin 2 => bigSep Finset.univ fun s : Fin 16 => tblPts d (tileAt c s) (shareAt c s) ft := by
  refine (Transfers.pointsTo_deal (ℓ := tLoc d) (S := Finset.univ) (f := ft) (Finset.univ : Finset (Fin 2)) ⟨0, Finset.mem_univ _⟩ fullShare).trans ?_
  refine bigSep_congr fun c _ => ?_
  exact Transfers.pointsTo_deal (ℓ := tLoc d) (S := Finset.univ) (f := ft) (Finset.univ : Finset (Fin 16)) ⟨0, Finset.mem_univ _⟩ _

/-- The three arrays are the tiles' parts of them. -/
theorem arrays_deal (fm : Buf (Elt F) (mLoc d)) (ft : Buf (Elt F) (tLoc d)) (f : Buf (Elt F) (oLoc d)) :
    (iprop((mLoc d ↦{fullShare} fm) ∗ (tLoc d ↦{fullShare} ft) ∗ oLoc d ↦{fullShare} f) : sProp (MM F))
      = bigSep Finset.univ fun c : Fin 2 => bigSep Finset.univ fun s : Fin 16 => goPts d (tileAt c s) (shareAt c s) fm ft f := by
  rw [mask_deal, table_deal, out_deal, ← bigSep_sep', ← bigSep_sep']
  refine bigSep_congr fun c _ => ?_
  rw [← bigSep_sep', ← bigSep_sep']

end Cert.Proof
-- ==== Proof.Launch.lean ====
/-
  The kernel's run: the mask flattened, the call, the rows shaped as the result.
-/
module

public import proofs.«01_k».proof.Defs
public import proofs.«01_k».proof.Proof.Deal
public import Idealize.ShloMosaic.Lib.SparseCore.Quiescent
public import Idealize.ShloMosaic.Lib.StableHlo.Run

@[expose] public section

set_option maxRecDepth 16384

noncomputable section

namespace Cert.Proof

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)

variable {F : FTy → Type} [FloatOps F] (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)

/-- The mask's two dimensions made one. -/
abbrev opMask : HloOp τ sig (Elt F) := StableHlo.reshape main_arg0 main_v0 (rfl : (.i32 : EltTy) = .i32) shapeCasts_S4096x200_S819200
/-- The rows shaped as the result. -/
abbrev opRows : HloOp τ sig (Elt F) := StableHlo.reshape main_v1 main_v2 (rfl : (.f32 : EltTy) = .f32) shapeCasts_S819200x64_S4096x200x64

/-- The contents at launch, and once the mask is flattened. -/
def V0 (d : Dev nD) : Valuation τ sig (Elt F) := fun b => m (d, b)
def V1 (d : Dev nD) : Valuation τ sig (Elt F) := (opMask (F := F)).result (V0 m d)

/-- The flattened mask, and the rows the tiles leave. -/
def maskAt (d : Dev nD) : S819200.Idx → BitVec 32 := shapeCast S819200 (m ((SparseCore.T d).loc main_arg0)) shapeCasts_S4096x200_S819200
def outRowsAt (d : Dev nD) : S819200x64.Idx → Elt F .f32 := outOf (maskAt m d) (m (tLoc d))

/-- The result: the rows in the result's shape. -/
def resultAt (d : Dev nD) : S4096x200x64.Idx → Elt F .f32 := shapeCast S4096x200x64 (outRowsAt m d) shapeCasts_S819200x64_S4096x200x64

/-- The contents after the call. -/
def V2 (d : Dev nD) : Valuation τ sig (Elt F) := Function.update (V1 m d) v1' (outRowsAt m d)

/-- What the call hands each tile, and takes back. -/
abbrev pieceIn (d : Dev nD) (c : Fin 2) (s : Fin 16) : sProp (MM F) := goPts d (tileAt c s) (shareAt c s) (maskAt m d) (m (tLoc d)) (m (oLoc d))
abbrev pieceOut (d : Dev nD) (c : Fin 2) (s : Fin 16) : sProp (MM F) := goPts d (tileAt c s) (shareAt c s) (maskAt m d) (m (tLoc d)) (outRowsAt m d)

theorem nCore_zero : (K (F := F)).nCore 0 = 2 := rfl
theorem nSub_zero : (K (F := F)).nSub 0 = 16 := rfl

/-- What the handshakes of the call carry: a SparseCore gets its sixteen tiles' pieces, a tile its own. -/
def P : (K (F := F)).Pay (nD := nD) (Val := Elt F) (Name := ℕ) (U := UU) where
  st := fun q d c => match q with | 0 => bigSep Finset.univ fun s : Fin 16 => pieceIn m d (Fin.cast nCore_zero c) s
  dn := fun q d c => match q with | 0 => bigSep Finset.univ fun s : Fin 16 => pieceOut m d (Fin.cast nCore_zero c) s
  go := fun q d c s => match q with | 0 => pieceIn m d (Fin.cast nCore_zero c) (Fin.cast nSub_zero s)
  td := fun q d c s => match q with | 0 => pieceOut m d (Fin.cast nCore_zero c) (Fin.cast nSub_zero s)
  x := fun _ _ => iprop(emp)

instance P_storable : (P (F := F) m).IsStorable where
  st q d c := match q with
    | 0 => (inferInstance : BI.Storable (upEmb : UEmb _ (MM F)) (bigSep Finset.univ fun s : Fin 16 => pieceIn m d (Fin.cast nCore_zero c) s))
  dn q d c := match q with
    | 0 => (inferInstance : BI.Storable (upEmb : UEmb _ (MM F)) (bigSep Finset.univ fun s : Fin 16 => pieceOut m d (Fin.cast nCore_zero c) s))
  go q d c s := match q with
    | 0 => (inferInstance : BI.Storable (upEmb : UEmb _ (MM F)) (pieceIn m d (Fin.cast nCore_zero c) (Fin.cast nSub_zero s)))
  td q d c s := match q with
    | 0 => (inferInstance : BI.Storable (upEmb : UEmb _ (MM F)) (pieceOut m d (Fin.cast nCore_zero c) (Fin.cast nSub_zero s)))

theorem defs₀_vector (c : Fin τ.nSC) (s : Fin τ.nSub) :
    defs₀ (F := F) (.scVector c s) 0 ()
      = SparseCore.onTile hcore0 hsub0 (fun c s => cc0__body (coordsV c s)
          mV (Memref.isWhole_whole _) tV (Memref.isWhole_whole _) oV (Memref.isWhole_whole _) wB (Memref.isWhole_whole _) tB (Memref.isWhole_whole _)
          sB (Memref.isWhole_whole _) cc0_scratch3 cc0_scratch4 cc0_scoped0 cc0_scoped1) ⟨⟩ c s := rfl

/-- Every tile's task runs from its piece to its piece. -/
theorem tileObl (hF : (K (F := F)).Facts) : (K (F := F)).TileObl (D (F := F)) 𝒱 (P m) v₀ 0 := by
  intro d c s O W hO _ _
  simp only [show (P m).ox = fun _ _ => 0 from rfl, add_zero]
  have hci : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  have h := tile_body d (coordsV ⟨_, hci.1⟩ ⟨_, hci.2⟩) hF O W hO (shareAt (Fin.cast nCore_zero c) (Fin.cast nSub_zero s)) (maskAt m d) (m (tLoc d)) (m (oLoc d))
  revert h
  generalize cc0__body (F := F) (coordsV ⟨_, hci.1⟩ ⟨_, hci.2⟩) mV (Memref.isWhole_whole _) tV (Memref.isWhole_whole _) oV (Memref.isWhole_whole _) wB
    (Memref.isWhole_whole _) tB (Memref.isWhole_whole _) sB (Memref.isWhole_whole _) cc0_scratch3 cc0_scratch4 cc0_scoped0 cc0_scoped1 = p
  exact fun h => h

theorem bigSep_tasks (Φ : Fin 16 → sProp (MM F)) :
    (bigSep Finset.univ fun s : Fin ((K (F := F)).nSub 0) => Φ (Fin.cast nSub_zero s)) = bigSep Finset.univ Φ :=
  bigSep_congr fun _ _ => congrArg Φ (Fin.ext rfl)

theorem bigSep_cores (Φ : Fin 2 → sProp (MM F)) :
    (bigSep Finset.univ fun c : Fin ((K (F := F)).nCore 0) => Φ (Fin.cast nCore_zero c)) = bigSep Finset.univ Φ :=
  bigSep_congr fun _ _ => congrArg Φ (Fin.ext rfl)

/-- A SparseCore's piece is its tiles' pieces. -/
theorem vecSplit : (K (F := F)).VecSplit' (P m) 0 := by
  intro d c
  show (bigSep Finset.univ fun s : Fin 16 => pieceIn m d (Fin.cast nCore_zero c) s) ⊢ |={Set.univ}=> iprop(
      (bigSep Finset.univ fun s : Fin ((K (F := F)).nSub 0) => pieceIn m d (Fin.cast nCore_zero c) (Fin.cast nSub_zero s))
      ∗ ((bigSep Finset.univ fun s : Fin ((K (F := F)).nSub 0) => pieceOut m d (Fin.cast nCore_zero c) (Fin.cast nSub_zero s))
          -∗ bigSep Finset.univ fun s : Fin 16 => pieceOut m d (Fin.cast nCore_zero c) s))
  rw [bigSep_tasks (F := F) (fun s => pieceIn m d (Fin.cast nCore_zero c) s), bigSep_tasks (F := F) (fun s => pieceOut m d (Fin.cast nCore_zero c) s)]
  iintro H
  imodintro
  isplitl [H]
  · iexact H
  iintro H
  iexact H

theorem emps {I : Type} (s : Finset I) : (bigSep s fun _ => iprop(emp)) = (iprop(emp) : sProp (MM F)) := bigSep_emp_const s

def u₀ : UU := (initOf (K (F := F)).hsCells (K (F := F)).hsToks, 1)

/-- The launch: the handshakes' rounds, and nothing of the kernel's own. -/
theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]
  · iexact HH
  isplitr
  · rw [emps]
    iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-- The program's five arrays. -/
abbrev S5 : Finset (DevRef τ sig) := {a0', a1', v0', v1', v2'}

theorem held_S5 (d : Dev nD) (W : Valuation τ sig (Elt F)) :
    (held (SparseCore.T d) S5 W : sProp (MM F))
      = iprop(((SparseCore.T d).loc main_arg0 ↦{fullShare} W a0') ∗ (tLoc d ↦{fullShare} W a1') ∗ (mLoc d ↦{fullShare} W v0')
          ∗ (oLoc d ↦{fullShare} W v1') ∗ (SparseCore.T d).loc main_v2 ↦{fullShare} W v2') := by
  unfold held S5
  rw [SparseCore.bigSep_insert' (by decide), SparseCore.bigSep_insert' (by decide), SparseCore.bigSep_insert' (by decide),
    SparseCore.bigSep_insert' (by decide), bigSep_singleton]

theorem unscoped_held (d : Dev nD) : (unscopedBufs d (fun b => m ((SparseCore.T d).loc b)) : sProp (MM F)) = held (SparseCore.T d) S5 (V0 m d) := by
  rw [held_S5]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

theorem V1_ne (d : Dev nD) (b : DevRef τ sig) (h : b ∉ ({v0'} : Finset (DevRef τ sig))) : V1 m d b = m (d, b) :=
  (opMask (F := F)).result_of_not_mem _ h
theorem V1_v0 (d : Dev nD) : V1 m d v0' = maskAt m d := StableHlo.reshape_result _ _ _ _ _ _ _

/-- The arrays before the call. -/
theorem held_V1 (d : Dev nD) :
    (held (SparseCore.T d) S5 ((opMask (F := F)).result (V0 m d)) : sProp (MM F))
      = iprop(((SparseCore.T d).loc main_arg0 ↦{fullShare} m ((SparseCore.T d).loc main_arg0)) ∗ (tLoc d ↦{fullShare} m (tLoc d)) ∗ (mLoc d ↦{fullShare} maskAt m d)
          ∗ (oLoc d ↦{fullShare} m (oLoc d)) ∗ (SparseCore.T d).loc main_v2 ↦{fullShare} m ((SparseCore.T d).loc main_v2)) := by
  show held (SparseCore.T d) S5 (V1 m d) = _
  rw [held_S5, V1_v0, V1_ne m d a0' (by decide), V1_ne m d a1' (by decide), V1_ne m d v1' (by decide), V1_ne m d v2' (by decide)]

theorem V2_ne (d : Dev nD) (b : DevRef τ sig) (h : b ≠ v1') : V2 m d b = V1 m d b := Function.update_of_ne h _ _
theorem V2_v1 (d : Dev nD) : V2 m d v1' = outRowsAt m d := Function.update_self _ _ _

/-- The arrays after the call. -/
theorem held_V2 (d : Dev nD) :
    (held (SparseCore.T d) S5 (V2 m d) : sProp (MM F))
      = iprop(((SparseCore.T d).loc main_arg0 ↦{fullShare} m ((SparseCore.T d).loc main_arg0)) ∗ (tLoc d ↦{fullShare} m (tLoc d)) ∗ (mLoc d ↦{fullShare} maskAt m d)
          ∗ (oLoc d ↦{fullShare} outRowsAt m d) ∗ (SparseCore.T d).loc main_v2 ↦{fullShare} m ((SparseCore.T d).loc main_v2)) := by
  rw [held_S5, V2_v1, V2_ne m d a0' (by decide), V2_ne m d a1' (by decide), V2_ne m d v0' (by decide), V2_ne m d v2' (by decide),
    V1_v0, V1_ne m d a0' (by decide), V1_ne m d a1' (by decide), V1_ne m d v2' (by decide)]

theorem V3_ne (d : Dev nD) (b : DevRef τ sig) (h : b ∉ ({v2'} : Finset (DevRef τ sig))) : (opRows (F := F)).result (V2 m d) b = V2 m d b :=
  (opRows (F := F)).result_of_not_mem _ h
theorem V3_v2 (d : Dev nD) : (opRows (F := F)).result (V2 m d) v2' = resultAt m d := by
  refine (StableHlo.reshape_result _ _ _ _ _ _ _).trans ?_
  rw [V2_v1]
  rfl

/-- What the program leaves: the arguments as they were, and the result. -/
abbrev FIN (d : Dev nD) : sProp (MM F) :=
  iprop(((SparseCore.T d).loc main_arg0 ↦{fullShare} m ((SparseCore.T d).loc main_arg0)) ∗ (tLoc d ↦{fullShare} m (tLoc d)) ∗ (SparseCore.T d).loc main_v2 ↦{fullShare} resultAt m d)

theorem held_V3 (d : Dev nD) : (held (SparseCore.T d) S5 ((opRows (F := F)).result (V2 m d)) : sProp (MM F)) ⊢ FIN m d := by
  rw [held_S5, V3_v2, V3_ne m d a0' (by decide), V3_ne m d a1' (by decide), V2_ne m d a0' (by decide), V2_ne m d a1' (by decide),
    V1_ne m d a0' (by decide), V1_ne m d a1' (by decide)]
  iintro ⟨H0, H1, -, -, H2⟩
  isplitl [H0]
  · iexact H0
  isplitl [H1]
  · iexact H1
  · iexact H2

theorem st0_eq (d : Dev nD) : (bigSep Finset.univ fun c : Fin ((K (F := F)).nCore 0) => (P m).st 0 d c)
    = iprop((mLoc d ↦{fullShare} maskAt m d) ∗ (tLoc d ↦{fullShare} m (tLoc d)) ∗ oLoc d ↦{fullShare} m (oLoc d)) :=
  (bigSep_cores (F := F) fun c => bigSep Finset.univ fun s : Fin 16 => pieceIn m d c s).trans (arrays_deal d (maskAt m d) (m (tLoc d)) (m (oLoc d))).symm

theorem dn0_eq (d : Dev nD) : (bigSep Finset.univ fun c : Fin ((K (F := F)).nCore 0) => (P m).dn 0 d c)
    = iprop((mLoc d ↦{fullShare} maskAt m d) ∗ (tLoc d ↦{fullShare} m (tLoc d)) ∗ oLoc d ↦{fullShare} outRowsAt m d) :=
  (bigSep_cores (F := F) fun c => bigSep Finset.univ fun s : Fin 16 => pieceOut m d c s).trans (arrays_deal d (maskAt m d) (m (tLoc d)) (outRowsAt m d)).symm

theorem hMask : (opMask (F := F)).bufs ⊆ S5 := show ({a0', v0'} : Finset (DevRef τ sig)) ⊆ S5 by decide
theorem hRows : (opRows (F := F)).bufs ⊆ S5 := show ({v1', v2'} : Finset (DevRef τ sig)) ⊆ S5 by decide

/-- The program on a device: the mask flattened, the call, the rows shaped as the result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opMask) (S := S5) hMask (V := V0 m d)) $$ [Hb Hheld]
  · isplitl [Hb] <;> iassumption
  iintro ⟨Hb, Hheld⟩
  rw [wp_ret]
  imodintro
  ihave Hh := (Entails.of_eq (held_V1 (F := F) m d)) $$ Hheld
  icases Hh with ⟨H0, H1, Hv0, Hv1, Hv2⟩
  iapply ((K (F := F)).wp_run (D (F := F)) 𝒱 (EH := EH) (P := P m) κ d 0) $$ [Hst H0 H1 Hv0 Hv1 Hv2 Hb Hts]
  isplitr
  · iexact Hctx
  isplitl [Hst]
  · iexact Hst
  isplitl [H1 Hv0 Hv1]
  · rw [st0_eq]
    isplitl [Hv0]
    · iexact Hv0
    isplitl [H1]
    · iexact H1
    · iexact Hv1
  iintro ⟨Hst, Hdn⟩
  ihave Hdn := (Entails.of_eq (dn0_eq m d)) $$ Hdn
  icases Hdn with ⟨Hv0, H1, Hv1⟩
  iapply (wp_hlo_within 𝒱 (SparseCore.T d) none Set.univ (op := opRows) (S := S5) hRows (V := V2 m d)) $$ [Hb H0 H1 Hv0 Hv1 Hv2]
  · isplitl [Hb]
    · iexact Hb
    rw [held_V2]
    isplitl [H0]
    · iexact H0
    isplitl [H1]
    · iexact H1
    isplitl [Hv0]
    · iexact Hv0
    isplitl [Hv1]
    · iexact Hv1
    · iexact Hv2
  iintro ⟨Hb, Hheld⟩
  ihave Hfin := (held_V3 (F := F) m d) $$ Hheld
  rw [wp_ret]
  imodintro
  imodintro
  isplitl [Hst]
  · iexact Hst
  isplitl [Hfin]
  · iexact Hfin
  isplitl [Hb] <;> iassumption

/-- What the claims read of a final state. -/
def fq (d : Dev nD) (s' : Phys nD τ sig (Elt F)) : Prop :=
  s'.mem.mem ((SparseCore.T d).loc main_v2) = resultAt m d ∧ s'.mem.mem ((SparseCore.T d).loc main_arg0) = m ((SparseCore.T d).loc main_arg0) ∧ s'.mem.mem (tLoc d) = m (tLoc d)

theorem hfin (d : Dev nD) (s' : Phys nD τ sig (Elt F)) : iprop(FIN m d ∗ SI s') ⊢ (⌜fq m d s'⌝ : sProp (MM F)) := by
  iintro ⟨⟨H0, H1, H2⟩, HSI⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (persistent_entails_right (SI_pointsTo_agree (st := s') (ℓ := tLoc d) (I := Finset.univ) (q := fullShare) (f := m (tLoc d)))) $$ [HSI H1]
  · isplitl [HSI] <;> iassumption
  icases H with ⟨%h1, HSI, -⟩
  ihave H := (SI_pointsTo_agree (st := s') (ℓ := (SparseCore.T d).loc main_v2) (I := Finset.univ) (q := fullShare) (f := resultAt m d)) $$ [HSI H2]
  · isplitl [HSI] <;> iassumption
  icases H with %h2
  ipureintro
  exact ⟨funext fun j => h2 j (Finset.mem_univ j), funext fun j => h0 j (Finset.mem_univ j), funext fun j => h1 j (Finset.mem_univ j)⟩

/-- Every final state: the result, the arguments as they were, every semaphore at zero. -/
def QC : PUnit × MemSt nD τ sig (Elt F) → Prop := fun r =>
  (∀ c : Dev nD, r.2.mem ((SparseCore.T c).loc main_v2) = resultAt m c ∧ r.2.mem ((SparseCore.T c).loc main_arg0) = m ((SparseCore.T c).loc main_arg0) ∧ r.2.mem (tLoc c) = m (tLoc c))
    ∧ r.2.sem = fun _ => 0

/-- The program runs, and ends so. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof
-- ==== Proof.Ref.lean ====
/-
  What the reference computes. Its running sum along a row counts the ones of the row so far (`runs_at`), so the
  position it looks up at word `(b, l)` is the one the kernel leaves there (`pos_at`); the position names a row of the
  table, so the guards around the lookup pass (`inside_at`) and the lookup reads that row (`take_at`). Element
  `(b, l, c)` of its result is then column `c` of the row that the position names (`ref_at`), as the kernel's is
  (`result_at`).
-/
module

public import proofs.«01_k».proof.Proof.Gen.ReferenceIdeal.Run
public import proofs.«01_k».proof.Proof.Launch
public import Idealize.ShloMosaic.Lib.Routing.Ops
public import Idealize.ShloMosaic.Lib.ReduceAll

@[expose] public section

set_option maxRecDepth 16384

noncomputable section

namespace Cert.Proof

open Idealize.ShloMosaic Idealize.SL.Sem Cert.ReferenceIdeal Cert.ReferenceIdeal.Gen
open Idealize.ShloMosaic.ValueIdx

variable {F : FTy → Type} [FloatOps F]

/-! ## The running sum -/

/-- The ones of the mask as words 1, the others as words 0. -/
def onesOf (a : S4096x200.Idx → BitVec 32) : S4096x200.Idx → BitVec 32 :=
  extui 32 (cmpi .eq a (broadcastInDim S4096x200 ![] bcast_S_S4096x200 (constantI S_ 32 1#32))) natLt_1_32

/-- The running sums of the rows. -/
def runsOf (x : S4096x200.Idx → BitVec 32) : S4096x200.Idx → BitVec 32 :=
  Host.reduceWindow IntOp.addi ![1, 200] ![1, 1] ![0, 199] ![0, 0] x (broadcastInDim S_ ![] bcast_S_S_ (constantI S_ 32 0#32))
    reduceWindows_S4096x200_S4096x200_w1s1p0_0_w200s1p199_0 h_S_

/-- The positions: the running sums at the ones, 0 elsewhere. -/
def posOf (a : S4096x200.Idx → BitVec 32) : S4096x200.Idx → BitVec 32 := muli (runsOf (onesOf a)) (onesOf a)

/-- A sum over a window of 200 that ends at word `l` of a row is the sum over the row's words up to it. -/
theorem sum_upto (g : ℕ → ℕ) (n₀ l : ℕ) (hl : l < 200) :
    (∑ n ∈ Finset.range 200, if 199 ≤ l + n then g (n₀ + (l + n - 199)) else 0) = ∑ n ∈ Finset.Ico n₀ (n₀ + l + 1), g n := by
  rw [← Finset.sum_filter]
  refine Finset.sum_nbij (fun n => n₀ + (l + n - 199)) ?_ ?_ ?_ fun _ _ => rfl
  · intro n hn
    have h := Finset.mem_filter.mp hn
    have := Finset.mem_range.mp h.1
    exact Finset.mem_Ico.mpr (by omega)
  · intro p hp q hq (h : n₀ + (l + p - 199) = n₀ + (l + q - 199))
    have := (Finset.mem_filter.mp hp).2
    have := (Finset.mem_filter.mp hq).2
    omega
  · intro k hk
    have := Finset.mem_Ico.mp (Finset.mem_coe.mp hk)
    exact ⟨k - n₀ + 199 - l, Finset.mem_coe.mpr (Finset.mem_filter.mpr ⟨Finset.mem_range.mpr (by omega), by omega⟩), by show n₀ + (l + (k - n₀ + 199 - l) - 199) = k; omega⟩

/-- Where row `b` of `x` marks the ones among the words from `n₀` on, the running sum at `(b, l)` is their count. -/
theorem runs_at (x : S4096x200.Idx → BitVec 32) (w : ℕ → BitVec 32) (b : Fin 4096) (l : Fin 200) (n₀ : ℕ)
    (hx : ∀ i : Fin 200, x (ix2 b i) = if w (n₀ + i.val) = 1#32 then 1#32 else 0#32) :
    runsOf x (ix2 b l) = BitVec.ofNat 32 (cnt w n₀ (n₀ + l.val + 1)) := by
  have hl := l.isLt
  unfold runsOf Host.reduceWindow
  refine (foldl_addi _ (fun n => if 199 ≤ l.val + n.val then (if w (n₀ + (l.val + n.val - 199)) = 1#32 then 1 else 0) else 0) _ 0 fun n _ => ?_).trans ?_
  · have hsym := Routing.symm2 (N := 200) n
    have h0 : ((Routing.shape2 1 200).rowMajor.symm n 0).val = 0 := by rw [hsym]; rfl
    have h1 : ((Routing.shape2 1 200).rowMajor.symm n 1).val = n.val := by rw [hsym]; rfl
    have hn : n.val < 200 := (n.cast (Routing.numel2 200)).isLt
    have key : (∀ a : Fin 2, (![0, 199] : Fin 2 → ℕ) a ≤ (ix2 b l a).val * (![1, 1] : Fin 2 → ℕ) a + ((Routing.shape2 1 200).rowMajor.symm n a).val
        ∧ (ix2 b l a).val * (![1, 1] : Fin 2 → ℕ) a + ((Routing.shape2 1 200).rowMajor.symm n a).val - (![0, 199] : Fin 2 → ℕ) a < S4096x200.size a) ↔ 199 ≤ l.val + n.val := by
      refine Fin.forall_fin_two.trans ?_
      rw [h0, h1]
      show (0 ≤ b.val * 1 + 0 ∧ b.val * 1 + 0 - 0 < 4096) ∧ (199 ≤ l.val * 1 + n.val ∧ l.val * 1 + n.val - 199 < 200) ↔ _
      have := b.isLt
      omega
    dsimp only
    by_cases hc : 199 ≤ l.val + n.val
    · rw [if_pos hc]
      refine (dif_pos (key.mpr hc)).trans ?_
      refine (congrArg x (?_ : _ = ix2 b ⟨l.val + n.val - 199, by omega⟩)).trans ((hx _).trans (by dsimp only; split <;> rfl))
      funext a
      refine Fin.ext ?_
      match a with
      | ⟨0, _⟩ =>
        show b.val * 1 + ((Routing.shape2 1 200).rowMajor.symm n 0).val - 0 = b.val
        rw [h0]; omega
      | ⟨1, _⟩ =>
        show l.val * 1 + ((Routing.shape2 1 200).rowMajor.symm n 1).val - 199 = l.val + n.val - 199
        rw [h1, Nat.mul_one]
    · rw [if_neg hc]
      exact dif_neg fun h => hc (key.mp h)
  · rw [Nat.zero_add, ← Fin.sum_univ_def, Fin.sum_univ_eq_sum_range (fun n => if 199 ≤ l.val + n then (if w (n₀ + (l.val + n - 199)) = 1#32 then 1 else 0) else 0)]
    refine congrArg (BitVec.ofNat 32) ?_
    refine Eq.trans ?_ (sum_upto (fun n => if w n = 1#32 then 1 else 0) n₀ l.val hl)
    exact congrArg (fun M => ∑ n ∈ Finset.range M, if 199 ≤ l.val + n then (if w (n₀ + (l.val + n - 199)) = 1#32 then 1 else 0) else 0) (Routing.numel2 200)

/-- Word `(b, l)` of the marks. -/
theorem ones_at (a : S4096x200.Idx → BitVec 32) (y : S4096x200.Idx) : onesOf a y = if a y = 1#32 then 1#32 else 0#32 := by
  have : onesOf a y = (BitVec.ofBool (a y == 1#32)).setWidth 32 := rfl
  rw [this]
  by_cases h : a y = 1#32
  · rw [if_pos h, h]; rfl
  · rw [if_neg h, beq_eq_false_iff_ne.mpr h]; rfl

/-- The position at `(b, l)` is the word that replaces word `200 b + l` of the flat mask. -/
theorem pos_at (a : S4096x200.Idx → BitVec 32) (w : ℕ → BitVec 32) (hw : ∀ (b : Fin 4096) (l : Fin 200), w (200 * b.val + l.val) = a (ix2 b l))
    (b : Fin 4096) (l : Fin 200) : posOf a (ix2 b l) = posv w (200 * b.val + l.val) := by
  have hl := l.isLt
  have hr : runsOf (onesOf a) (ix2 b l) = BitVec.ofNat 32 (cnt w (200 * b.val) (200 * b.val + l.val + 1)) :=
    runs_at _ w b l (200 * b.val) fun i => by rw [ones_at, hw]
  show runsOf (onesOf a) (ix2 b l) * onesOf a (ix2 b l) = _
  rw [hr, ones_at, posv, hw, show (200 * b.val + l.val) / 200 = b.val by omega]
  split
  · exact BitVec.mul_one _
  · exact BitVec.mul_zero

/-! ## The lookup -/

/-- The rows looked up: the positions, a negative one counted from the table's end. -/
def rowOf (p : S4096x200.Idx → BitVec 32) : S4096x200x1.Idx → BitVec 32 :=
  broadcastInDim S4096x200x1 ![0, 1] bcast_S4096x200_S4096x200x1_0_1
    (select (cmpi .slt p (broadcastInDim S4096x200 ![] bcast_S_S4096x200 (constantI S_ 32 0#32)))
      (addi p (broadcastInDim S4096x200 ![] bcast_S_S4096x200 (constantI S_ 32 1000#32))) p)

/-- Whether the row looked up is one of the table's. -/
def insideOf (ix : S4096x200x1.Idx → BitVec 32) : S4096x200.Idx → BitVec 1 :=
  Host.reduce IntOp.andi (andi (cmpi .sge ix (broadcastInDim S4096x200x1 ![] bcast_S_S4096x200x1 (constantI S_ 32 0#32)))
      (cmpi .sle ix (broadcastInDim S4096x200x1 ![0, 1, 2] bcast_S1x1x1_S4096x200x1_0_1_2 (broadcastInDim S1x1x1 ![2] bcast_S1_S1x1x1_2 (constantI S1 32 999#32)))))
    (constantI S_ 1 1#1) reducesTo_S4096x200x1_S4096x200_d2 h_S_

/-- The lookup, with the fill where the row is not one of the table's. -/
def takeOf (t : S1000x64.Idx → Elt F .f32) (ix : S4096x200x1.Idx → BitVec 32) : S4096x200x64.Idx → Elt F .f32 :=
  select (broadcastInDim S4096x200x64 ![0, 1] bcast_S4096x200_S4096x200x64_0_1 (insideOf ix))
    (Host.gather gather_S1000x64_S4096x200x1_S4096x200x64_2_0_n_n_0_2_164 t ix)
    (broadcastInDim S4096x200x64 ![] bcast_S_S4096x200x64 (constant S_ .f32 0x7FC00000#32))

/-- The reference's result, by these names. -/
theorem res_eq (m : (ℓ : Loc nD τ sig) → Buf (Elt F) ℓ) (c : Dev nD) :
    Value.res_main_v5 m c = takeOf (m ((c.tc : Thread nD τ).loc main_arg1)) (rowOf (posOf (m ((c.tc : Thread nD τ).loc main_arg0)))) := by
  unfold Value.res_main_v5
  rfl

/-- A small word is not negative, and is its own number. -/
theorem toInt_small (p : BitVec 32) (hp : p.toNat < 208) : p.toInt = p.toNat := by
  rw [BitVec.toInt_eq_toNat_cond, if_pos (by omega)]

/-- The row looked up at `(b, l)` is the position there, where that is small. -/
theorem row_at (p : S4096x200.Idx → BitVec 32) (b : Fin 4096) (l : Fin 200) (z : Fin 1) (hp : (p (ix2 b l)).toNat < 208) :
    rowOf p (ix3 b l z) = p (ix2 b l) := by
  refine (broadcastInDim_apply _ bcast_S4096x200_S4096x200x1_0_1 _ _ (ix2 b l) fun a => ?_).trans ?_
  · match a with
    | ⟨0, _⟩ => exact (if_neg (show ¬ (4096 : ℕ) = 1 by omega)).symm
    | ⟨1, _⟩ => exact (if_neg (show ¬ (200 : ℕ) = 1 by omega)).symm
  · show (if BitVec.ofBool ((p (ix2 b l)).slt 0#32) = 1#1 then _ else p (ix2 b l)) = _
    refine if_neg ?_
    have : (p (ix2 b l)).slt 0#32 = false := by
      rw [BitVec.slt_eq_decide, toInt_small _ hp]
      exact decide_eq_false (by rw [BitVec.toInt_zero]; omega)
    rw [this]
    decide

/-- Every row looked up is one of the table's where the rows are small. -/
theorem inside_at (ix : S4096x200x1.Idx → BitVec 32) (h : ∀ i, (ix i).toNat < 208) (y : S4096x200.Idx) : insideOf ix y = 1#1 := by
  refine Host.reduce_andi_one _ _ _ _ _ rfl fun i => ?_
  show BitVec.ofBool ((0#32).sle (ix i)) &&& BitVec.ofBool ((ix i).sle 999#32) = 1#1
  have h₁ : (0#32).sle (ix i) = true := by
    rw [BitVec.sle_eq_decide, toInt_small _ (h i)]
    exact decide_eq_true (by rw [BitVec.toInt_zero]; omega)
  have h₂ : (ix i).sle 999#32 = true := by
    rw [BitVec.sle_eq_decide, toInt_small _ (h i)]
    have := h i
    exact decide_eq_true (by rw [show (999#32 : BitVec 32).toInt = 999 by decide]; omega)
  rw [h₁, h₂]
  rfl

/-- The gather reads, at `(b, l, c)`, column `c` of the row that its index at `(b, l)` names, brought into the table. -/
theorem gather_at {α : Type} (t : S1000x64.Idx → α) (ix : S4096x200x1.Idx → BitVec 32) (b : Fin 4096) (l : Fin 200) (c : Fin 64) :
    Host.gather gather_S1000x64_S4096x200x1_S4096x200x64_2_0_n_n_0_2_164 t ix (ix3 b l c)
      = t (ix2 ⟨min (ix (ix3 b l 0)).toInt.toNat 999, by omega⟩ c) := by
  set G := gather_S1000x64_S4096x200x1_S4096x200x64_2_0_n_n_0_2_164 with hG
  unfold Host.gather
  refine congrArg t (funext fun a => Fin.ext ?_)
  show G.start (ix3 b l c) ix a + G.batchCoord (ix3 b l c) a + G.offCoord (ix3 b l c) a = _
  rw [GatherDims.batchCoord_eq_zero _ _ _ (show a ∉ ([] : List (Fin 2)) from List.not_mem_nil), Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    have hm : (0 : Fin 2) ∈ G.startIndexMap := List.mem_singleton.mpr rfl
    refine (dif_pos hm).trans ?_
    have hi : G.siIdx (ix3 b l c) ⟨List.idxOf (0 : Fin 2) G.startIndexMap, List.idxOf_lt_length_iff.2 hm⟩ = ix3 b l 0 := by
      funext k
      refine Fin.ext ?_
      match k with
      | ⟨0, _⟩ => rfl
      | ⟨1, _⟩ => rfl
      | ⟨2, _⟩ => rfl
    exact congrArg (fun k => min (ix k).toInt.toNat 999) hi
  | ⟨1, _⟩ =>
    have hs : G.start (ix3 b l c) ix (1 : Fin 2) = 0 := by
      unfold GatherDims.start
      exact dif_neg (show ¬ (1 : Fin 2) ∈ ([0] : List (Fin 2)) by decide)
    have ho : G.offCoord (ix3 b l c) (1 : Fin 2) = c.val := by
      unfold GatherDims.offCoord
      rw [dif_pos ((GatherDims.mem_sKept _ _).mpr ⟨show ¬ (1 : Fin 2) ∈ ([0] : List (Fin 2)) by decide, show ¬ (1 : Fin 2) ∈ ([] : List (Fin 2)) from List.not_mem_nil⟩)]
      rfl
    exact (congrArg₂ (· + ·) hs ho).trans (Nat.zero_add _)

/-- A selection takes the first array where its bit is set. -/
theorem select_one {s : Shape} {α : Type} (k : s.Idx → BitVec 1) (x y : s.Idx → α) (j : s.Idx) (h : k j = 1#1) : select k x y j = x j := if_pos h

/-- The lookup reads, at `(b, l, c)`, column `c` of the row named at `(b, l)`, where all rows are small. -/
theorem take_at (t : S1000x64.Idx → Elt F .f32) (ix : S4096x200x1.Idx → BitVec 32) (h : ∀ i, (ix i).toNat < 208)
    (b : Fin 4096) (l : Fin 200) (c : Fin 64) : takeOf t ix (ix3 b l c) = tabOf t (ix (ix3 b l 0)).toNat c.val := by
  have spread : ∀ k : S4096x200.Idx → BitVec 1, (∀ y, k y = 1#1) → broadcastInDim S4096x200x64 ![0, 1] bcast_S4096x200_S4096x200x64_0_1 k (ix3 b l c) = 1#1 := fun _ hk => hk _
  unfold takeOf
  rw [select_one _ _ _ (ix3 b l c) (spread _ (inside_at ix h)), gather_at]
  unfold tabOf
  refine congrArg t (funext fun a => Fin.ext ?_)
  match a with
  | ⟨0, _⟩ =>
    show min (ix (ix3 b l 0)).toInt.toNat 999 = min (ix (ix3 b l 0)).toNat 999
    exact congrArg (fun n : ℤ => min n.toNat 999) (toInt_small _ (h _))
  | ⟨1, _⟩ =>
    show c.val = min c.val 63
    have := c.isLt
    omega

/-! ## The two results -/

/-- The reference's result at `(b, l, c)`: column `c` of the row that the position of word `200 b + l` names. -/
theorem ref_at (m : (ℓ : Loc nD τ sig) → Buf (Elt F) ℓ) (d : Dev nD) (w : ℕ → BitVec 32)
    (hw : ∀ (b : Fin 4096) (l : Fin 200), w (200 * b.val + l.val) = m ((d.tc : Thread nD τ).loc main_arg0) (ix2 b l)) (b : Fin 4096) (l : Fin 200) (c : Fin 64) :
    Value.res_main_v5 m d (ix3 b l c) = tabOf (m ((d.tc : Thread nD τ).loc main_arg1)) (posv w (200 * b.val + l.val)).toNat c.val := by
  have hs : ∀ b l, (posOf (m ((d.tc : Thread nD τ).loc main_arg0)) (ix2 b l)).toNat < 208 := fun b l => by
    rw [pos_at _ w hw]; exact posv_lt _ _
  have hr : ∀ i, (rowOf (posOf (m ((d.tc : Thread nD τ).loc main_arg0))) i).toNat < 208 := fun i => by
    obtain ⟨b, l, z, rfl⟩ : ∃ (b : Fin 4096) (l : Fin 200) (z : Fin 1), i = ix3 b l z := ⟨i 0, i 1, i 2, eq_ix3 i⟩
    rw [row_at _ _ _ _ (hs _ _)]
    exact hs _ _
  rw [res_eq, take_at _ _ hr, row_at _ _ _ _ (hs _ _), pos_at _ w hw]

/-- Word `200 b + l` of the flat mask is the mask's word `(b, l)`. -/
theorem word_at (m : (ℓ : Loc Cert.KernelIdeal.nD Cert.KernelIdeal.τ Cert.KernelIdeal.sig) → Buf (Elt F) ℓ) (d : Dev Cert.KernelIdeal.nD) (b : Fin 4096) (l : Fin 200) :
    wordOf (maskAt m d) (200 * b.val + l.val) = m ((SparseCore.T d).loc Cert.KernelIdeal.main_arg0) (ix2 b l) := by
  have hb := b.isLt
  have hl := l.isLt
  unfold wordOf maskAt
  refine shapeCast_apply _ _ _ (ix2 b l) ?_
  refine (Shape.rowMajor_val_two (d := ![4096, 200]) _).trans (Eq.trans ?_ (Shape.rowMajor_val_one (d := ![819200]) _).symm)
  show b.val * 200 + l.val = min (200 * b.val + l.val) 819199
  omega

/-- The kernel's result at `(b, l, c)`: the same. -/
theorem result_at (m : (ℓ : Loc Cert.KernelIdeal.nD Cert.KernelIdeal.τ Cert.KernelIdeal.sig) → Buf (Elt F) ℓ) (d : Dev Cert.KernelIdeal.nD) (b : Fin 4096) (l : Fin 200) (c : Fin 64) :
    resultAt m d (ix3 b l c) = tabOf (m (tLoc d)) (posv (wordOf (maskAt m d)) (200 * b.val + l.val)).toNat c.val := by
  have hb := b.isLt
  have hl := l.isLt
  unfold resultAt
  refine (shapeCast_apply _ _ _ (ix2 (⟨200 * b.val + l.val, by omega⟩ : Fin 819200) c) ?_).trans rfl
  refine (Shape.rowMajor_val_two (d := ![819200, 64]) _).trans (Eq.trans ?_ (Shape.rowMajor_val_three (d := ![4096, 200, 64]) _).symm)
  show (200 * b.val + l.val) * 64 + c.val = (b.val * 200 + l.val) * 64 + c.val
  omega

/-- From memories that agree on the arguments the reference's result is the kernel's. -/
theorem results_eq (m : (ℓ : Loc Cert.KernelIdeal.nD Cert.KernelIdeal.τ Cert.KernelIdeal.sig) → Buf (Elt F) ℓ) (m' : (ℓ : Loc nD τ sig) → Buf (Elt F) ℓ) (d : Dev nD)
    (h₀ : m' ((d.tc : Thread nD τ).loc main_arg0) = m ((SparseCore.T d).loc Cert.KernelIdeal.main_arg0)) (h₁ : m' ((d.tc : Thread nD τ).loc main_arg1) = m (tLoc d)) :
    Value.res_main_v5 m' d = resultAt m d := by
  funext y
  obtain ⟨b, l, c, rfl⟩ : ∃ (b : Fin 4096) (l : Fin 200) (c : Fin 64), y = ix3 b l c := ⟨y 0, y 1, y 2, eq_ix3 y⟩
  rw [ref_at m' d (wordOf (maskAt m d)) (fun b l => by rw [word_at, h₀]), result_at, h₁]

end Cert.Proof

end
-- ==== Proof.lean ====
/-
  The certificate's claims, each from the one run of the kernel and the run of the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference
public import proofs.«01_k».proof.Proof.Launch
public import proofs.«01_k».proof.Proof.Ref

@[expose] public section

noncomputable section

namespace Cert.Proof

open Idealize.ShloMosaic Idealize.SL.Sem

/-- The kernel's frame: it runs, its arguments end as they were, every semaphore at zero. -/
theorem frame_kernel : Cert.quiescent_Kernel := fun m ρ _ =>
  (θ_run Cert.KernelIdeal.defs _ _).mono (fun _ h => ⟨fun c => (h.1 c).2, h.2⟩) (run_main (F := Bits) m ρ)

/-- The idealized kernel's frame, from the same run. -/
theorem frame_ideal : Cert.quiescent_KernelIdeal := fun m ρ _ =>
  (θ_run Cert.KernelIdeal.defs _ _).mono (fun _ h => ⟨fun c => (h.1 c).2, h.2⟩) (run_main (F := Ideal) m ρ)

/-- The reference's frame. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The reference's frame on words. -/
theorem frame_reference_words : Cert.quiescent_Reference := fun m ρ _ =>
  (θ_run Cert.ReferenceIdeal.defs _ _).mono (fun r h => ⟨fun c => (h c).2, sem_eq_zero_of_no_sems (by decide) r.2⟩) (Cert.ReferenceIdeal.Value.run (F := Bits) m ρ)

/-- Over the extended reals kernel and reference end with the same result. -/
theorem same_ideal : Cert.algebraic_KernelIdeal_ReferenceIdeal := fun m ρ m' ρ' _ h =>
  ⟨fun c => resultAt m c, (θ_run Cert.KernelIdeal.defs _ _).mono (fun _ hr => hr.1) (run_main (F := Ideal) m ρ),
    (θ_run Cert.ReferenceIdeal.defs _ _).mono (fun _ hr c => ⟨(hr c).1.trans (results_eq m m' c (h c).1 (h c).2), (hr c).2⟩)
      (Cert.ReferenceIdeal.Value.run (F := Ideal) m' ρ')⟩

/-- On words too: a lookup moves them unchanged. -/
theorem same_words : Cert.bitexact_Kernel_Reference := fun m ρ m' ρ' _ h =>
  ⟨fun c => resultAt (F := Bits) m c, (θ_run Cert.KernelIdeal.defs _ _).mono (fun _ hr => hr.1) (run_main (F := Bits) m ρ),
    (θ_run Cert.ReferenceIdeal.defs _ _).mono (fun _ hr c => ⟨(hr c).1.trans (results_eq (F := Bits) m m' c (h c).1 (h c).2), (hr c).2⟩)
      (Cert.ReferenceIdeal.Value.run (F := Bits) m' ρ')⟩

/-- Everything that is claimed. -/
theorem claim : Cert.Claim := ⟨Cert.Kernel.Gen.facts, Cert.KernelIdeal.Gen.facts, Cert.ReferenceIdeal.Gen.facts, Cert.Reference.Gen.facts,
  frame_kernel, frame_ideal, frame_reference, frame_reference_words, trivial, same_ideal, same_words⟩

end Cert.Proof

end
